-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4x128x2048 : Shape := ⟨3, ![4, 128, 2048]⟩
abbrev S4x128x1024 : Shape := ⟨3, ![4, 128, 1024]⟩
abbrev S2x4x128x1024 : Shape := ⟨4, ![2, 4, 128, 1024]⟩
abbrev S5x4x128x1024 : Shape := ⟨4, ![5, 4, 128, 1024]⟩
abbrev S4 : Shape := ⟨1, ![4]⟩
abbrev S7x4 : Shape := ⟨2, ![7, 4]⟩
abbrev S_ : Shape := ⟨0, ![]⟩
abbrev S128x512 : Shape := ⟨2, ![128, 512]⟩
abbrev S512x1024 : Shape := ⟨2, ![512, 1024]⟩
abbrev S128x1024 : Shape := ⟨2, ![128, 1024]⟩
abbrev S1x128x1024 : Shape := ⟨3, ![1, 128, 1024]⟩
abbrev S1x1 : Shape := ⟨2, ![1, 1]⟩
abbrev S1x1x128x1024 : Shape := ⟨4, ![1, 1, 128, 1024]⟩
abbrev S512x512 : Shape := ⟨2, ![512, 512]⟩
abbrev S128x2048 : Shape := ⟨2, ![128, 2048]⟩
abbrev S1x128x2048 : Shape := ⟨3, ![1, 128, 2048]⟩

abbrev nBuf : Space → Nat
  | .hbm => 5
  | .vmem => 11
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e4m3⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e4m3⟩
  | .local _ .vmem, ⟨1, _⟩ => ⟨S512x2048, .fp8e4m3⟩
  | .local _ .vmem, ⟨2, _⟩ => ⟨S4x128x2048, .f32⟩
  | .local _ .vmem, ⟨3, _⟩ => ⟨S4x128x1024, .fp8e4m3⟩
  | .local _ .vmem, ⟨4, _⟩ => ⟨S4x128x1024, .fp8e4m3⟩
  | .local _ .vmem, ⟨5, _⟩ => ⟨S4x128x1024, .bf16⟩
  | .local _ .vmem, ⟨6, _⟩ => ⟨S4x128x1024, .bf16⟩
  | .local _ .vmem, ⟨7, _⟩ => ⟨S2x4x128x1024, .fp8e4m3⟩
  | .local _ .vmem, ⟨8, _⟩ => ⟨S2x4x128x1024, .fp8e4m3⟩
  | .local _ .vmem, ⟨9, _⟩ => ⟨S5x4x128x1024, .bf16⟩
  | .local _ .vmem, ⟨10, _⟩ => ⟨S5x4x128x1024, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c15_i32 : BitVec 32 := 15#32
  let v13 : BitVec 32 := Scalar.addi v2 c15_i32
  let c8_i32_10 : BitVec 32 := 8#32
  let v14 : BitVec 32 := Scalar.remsi v13 c8_i32_10
  let c512_i32 : BitVec 32 := 512#32
  let v15 : BitVec 32 := Scalar.muli v14 c512_i32
  let v16 : BitVec 32 := Scalar.addi v15 c0_i32_11
  let v17 : Index := Scalar.indexCast v16
  let c0 : Index := 0#32
  ![v17.toNat, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_23 : BitVec 32 := 1#32
  let v30 : BitVec 32 := Scalar.muli v7 c1_i32_23
  let v31 : BitVec 32 := Scalar.addi c0_i32_24 v30
  v31.toNat
def k0_off2 (d0 : Dev nD) (c0_i32_33 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v40 : BitVec 32 := Scalar.addi v2 c1_i32_29
  let c0_i32_30 : BitVec 32 := 0#32
  let v41 : BitVec 32 := Scalar.addi v40 c0_i32_30
  let c8_i32_31 : BitVec 32 := 8#32
  let v42 : BitVec 32 := Scalar.remsi v41 c8_i32_31
  let c512_i32_32 : BitVec 32 := 512#32
  let v43 : BitVec 32 := Scalar.muli v42 c512_i32_32
  let v44 : BitVec 32 := Scalar.addi v43 c0_i32_33
  let v45 : Index := Scalar.indexCast v44
  let c0_34 : Index := 0#32
  ![v45.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_46 : BitVec 32 := 1#32
  let v58 : BitVec 32 := Scalar.muli v5 c1_i32_46
  let v59 : BitVec 32 := Scalar.addi c0_i32_47 v58
  v59.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_67 : BitVec 32 := 1#32
  let v85 : BitVec 32 := Scalar.muli v7 c1_i32_67
  let v86 : BitVec 32 := Scalar.addi c0_i32_68 v85
  v86.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_91 : BitVec 32 := 1#32
  let v113 : BitVec 32 := Scalar.muli v5 c1_i32_91
  let v114 : BitVec 32 := Scalar.addi c0_i32_92 v113
  v114.toNat
def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_112 : BitVec 32 := 1#32
  let v140 : BitVec 32 := Scalar.muli v7 c1_i32_112
  let v141 : BitVec 32 := Scalar.addi c0_i32_113 v140
  v141.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_136 : BitVec 32 := 1#32
  let v168 : BitVec 32 := Scalar.muli v5 c1_i32_136
  let v169 : BitVec 32 := Scalar.addi c0_i32_137 v168
  v169.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_156 : BitVec 32 := 1#32
  let v195 : BitVec 32 := Scalar.muli v7 c1_i32_156
  let v196 : BitVec 32 := Scalar.addi c0_i32_157 v195
  v196.toNat
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_180 : BitVec 32 := 1#32
  let v223 : BitVec 32 := Scalar.muli v5 c1_i32_180
  let v224 : BitVec 32 := Scalar.addi c0_i32_181 v223
  v224.toNat
def k0_off3 (d0 : Dev nD) (c14_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v233 : BitVec 32 := Scalar.addi v2 c14_i32
  let c8_i32_186 : BitVec 32 := 8#32
  let v234 : BitVec 32 := Scalar.remsi v233 c8_i32_186
  let c512_i32_187 : BitVec 32 := 512#32
  let v235 : BitVec 32 := Scalar.muli v234 c512_i32_187
  let c0_i32_188 : BitVec 32 := 0#32
  let v236 : BitVec 32 := Scalar.addi v235 c0_i32_188
  let v237 : Index := Scalar.indexCast v236
  let c0_189 : Index := 0#32
  ![v237.toNat, 0]
def k0_off4 (d0 : Dev nD) (c1_i32_194 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_193 : BitVec 32 := 1#32
  let v246 : BitVec 32 := Scalar.addi v2 c1_i32_193
  let v247 : BitVec 32 := Scalar.addi v246 c1_i32_194
  let c8_i32_195 : BitVec 32 := 8#32
  let v248 : BitVec 32 := Scalar.remsi v247 c8_i32_195
  let c512_i32_196 : BitVec 32 := 512#32
  let v249 : BitVec 32 := Scalar.muli v248 c512_i32_196
  let c0_i32_197 : BitVec 32 := 0#32
  let v250 : BitVec 32 := Scalar.addi v249 c0_i32_197
  let v251 : Index := Scalar.indexCast v250
  let c0_198 : Index := 0#32
  ![v251.toNat, 0]
def k0_dev11 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_238 : BitVec 32 := 1#32
  let v283 : BitVec 32 := Scalar.muli v7 c1_i32_238
  let v284 : BitVec 32 := Scalar.addi c0_i32_239 v283
  v284.toNat
def k0_dev12 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_280 : BitVec 32 := 1#32
  let v316 : BitVec 32 := Scalar.muli v5 c1_i32_280
  let v317 : BitVec 32 := Scalar.addi c0_i32_281 v316
  v317.toNat
def k0_dev13 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_322 : BitVec 32 := 1#32
  let v349 : BitVec 32 := Scalar.muli v7 c1_i32_322
  let v350 : BitVec 32 := Scalar.addi c0_i32_323 v349
  v350.toNat
def k0_dev14 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_364 : BitVec 32 := 1#32
  let v382 : BitVec 32 := Scalar.muli v5 c1_i32_364
  let v383 : BitVec 32 := Scalar.addi c0_i32_365 v382
  v383.toNat
def k0_dev15 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_406 : BitVec 32 := 1#32
  let v415 : BitVec 32 := Scalar.muli v7 c1_i32_406
  let v416 : BitVec 32 := Scalar.addi c0_i32_407 v415
  v416.toNat
def k0_dev16 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_448 : BitVec 32 := 1#32
  let v448 : BitVec 32 := Scalar.muli v5 c1_i32_448
  let v449 : BitVec 32 := Scalar.addi c0_i32_449 v448
  v449.toNat
def k0_dev17 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_490 : BitVec 32 := 1#32
  let v481 : BitVec 32 := Scalar.muli v7 c1_i32_490
  let v482 : BitVec 32 := Scalar.addi c0_i32_491 v481
  v482.toNat
def k0_dev18 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_532 : BitVec 32 := 1#32
  let v514 : BitVec 32 := Scalar.muli v5 c1_i32_532
  let v515 : BitVec 32 := Scalar.addi c0_i32_533 v514
  v515.toNat
def k0_dev19 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_590 : BitVec 32 := 1#32
  let v573 : BitVec 32 := Scalar.muli v7 c1_i32_590
  let v574 : BitVec 32 := Scalar.addi c0_i32_591 v573
  v574.toNat
def k0_dev20 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_632 : BitVec 32 := 1#32
  let v605 : BitVec 32 := Scalar.muli v5 c1_i32_632
  let v606 : BitVec 32 := Scalar.addi c0_i32_633 v605
  v606.toNat
def k0_dev21 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_674 : BitVec 32 := 1#32
  let v637 : BitVec 32 := Scalar.muli v7 c1_i32_674
  let v638 : BitVec 32 := Scalar.addi c0_i32_675 v637
  v638.toNat
def k0_dev22 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_716 : BitVec 32 := 1#32
  let v669 : BitVec 32 := Scalar.muli v5 c1_i32_716
  let v670 : BitVec 32 := Scalar.addi c0_i32_717 v669
  v670.toNat
def k0_dev23 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_758 : BitVec 32 := 1#32
  let v701 : BitVec 32 := Scalar.muli v7 c1_i32_758
  let v702 : BitVec 32 := Scalar.addi c0_i32_759 v701
  v702.toNat
def k0_dev24 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_800 : BitVec 32 := 1#32
  let v733 : BitVec 32 := Scalar.muli v5 c1_i32_800
  let v734 : BitVec 32 := Scalar.addi c0_i32_801 v733
  v734.toNat
def k0_dev25 (d0 : Dev nD) : Nat :=
  let c0_i32_843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_842 : BitVec 32 := 1#32
  let v765 : BitVec 32 := Scalar.muli v7 c1_i32_842
  let v766 : BitVec 32 := Scalar.addi c0_i32_843 v765
  v766.toNat
def k0_dev26 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_884 : BitVec 32 := 1#32
  let v797 : BitVec 32 := Scalar.muli v5 c1_i32_884
  let v798 : BitVec 32 := Scalar.addi c0_i32_885 v797
  v798.toNat
def k0_dev27 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_942 : BitVec 32 := 1#32
  let v855 : BitVec 32 := Scalar.muli v7 c1_i32_942
  let v856 : BitVec 32 := Scalar.addi c0_i32_943 v855
  v856.toNat
def k0_dev28 (d0 : Dev nD) : Nat :=
  let c0_i32_985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_984 : BitVec 32 := 1#32
  let v886 : BitVec 32 := Scalar.muli v5 c1_i32_984
  let v887 : BitVec 32 := Scalar.addi c0_i32_985 v886
  v887.toNat
def k0_dev29 (d0 : Dev nD) : Nat :=
  let c0_i32_1027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1026 : BitVec 32 := 1#32
  let v917 : BitVec 32 := Scalar.muli v7 c1_i32_1026
  let v918 : BitVec 32 := Scalar.addi c0_i32_1027 v917
  v918.toNat
def k0_dev30 (d0 : Dev nD) : Nat :=
  let c0_i32_1069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1068 : BitVec 32 := 1#32
  let v948 : BitVec 32 := Scalar.muli v5 c1_i32_1068
  let v949 : BitVec 32 := Scalar.addi c0_i32_1069 v948
  v949.toNat
def k0_dev31 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1110 : BitVec 32 := 1#32
  let v979 : BitVec 32 := Scalar.muli v7 c1_i32_1110
  let v980 : BitVec 32 := Scalar.addi c0_i32_1111 v979
  v980.toNat
def k0_dev32 (d0 : Dev nD) : Nat :=
  let c0_i32_1153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1152 : BitVec 32 := 1#32
  let v1010 : BitVec 32 := Scalar.muli v5 c1_i32_1152
  let v1011 : BitVec 32 := Scalar.addi c0_i32_1153 v1010
  v1011.toNat
def k0_dev33 (d0 : Dev nD) : Nat :=
  let c0_i32_1195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1194 : BitVec 32 := 1#32
  let v1041 : BitVec 32 := Scalar.muli v7 c1_i32_1194
  let v1042 : BitVec 32 := Scalar.addi c0_i32_1195 v1041
  v1042.toNat
def k0_dev34 (d0 : Dev nD) : Nat :=
  let c0_i32_1237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1236 : BitVec 32 := 1#32
  let v1072 : BitVec 32 := Scalar.muli v5 c1_i32_1236
  let v1073 : BitVec 32 := Scalar.addi c0_i32_1237 v1072
  v1073.toNat
def k0_dev35 (d0 : Dev nD) : Nat :=
  let c0_i32_1294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1293 : BitVec 32 := 1#32
  let v1130 : BitVec 32 := Scalar.muli v7 c1_i32_1293
  let v1131 : BitVec 32 := Scalar.addi c0_i32_1294 v1130
  v1131.toNat
def k0_dev36 (d0 : Dev nD) : Nat :=
  let c0_i32_1336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1335 : BitVec 32 := 1#32
  let v1161 : BitVec 32 := Scalar.muli v5 c1_i32_1335
  let v1162 : BitVec 32 := Scalar.addi c0_i32_1336 v1161
  v1162.toNat
def k0_dev37 (d0 : Dev nD) : Nat :=
  let c0_i32_1378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1377 : BitVec 32 := 1#32
  let v1192 : BitVec 32 := Scalar.muli v7 c1_i32_1377
  let v1193 : BitVec 32 := Scalar.addi c0_i32_1378 v1192
  v1193.toNat
def k0_dev38 (d0 : Dev nD) : Nat :=
  let c0_i32_1420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1419 : BitVec 32 := 1#32
  let v1223 : BitVec 32 := Scalar.muli v5 c1_i32_1419
  let v1224 : BitVec 32 := Scalar.addi c0_i32_1420 v1223
  v1224.toNat
def k0_dev39 (d0 : Dev nD) : Nat :=
  let c0_i32_1462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1461 : BitVec 32 := 1#32
  let v1254 : BitVec 32 := Scalar.muli v7 c1_i32_1461
  let v1255 : BitVec 32 := Scalar.addi c0_i32_1462 v1254
  v1255.toNat
def k0_dev40 (d0 : Dev nD) : Nat :=
  let c0_i32_1504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1503 : BitVec 32 := 1#32
  let v1285 : BitVec 32 := Scalar.muli v5 c1_i32_1503
  let v1286 : BitVec 32 := Scalar.addi c0_i32_1504 v1285
  v1286.toNat
def k0_dev41 (d0 : Dev nD) : Nat :=
  let c0_i32_1546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1545 : BitVec 32 := 1#32
  let v1316 : BitVec 32 := Scalar.muli v7 c1_i32_1545
  let v1317 : BitVec 32 := Scalar.addi c0_i32_1546 v1316
  v1317.toNat
def k0_dev42 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1587 : BitVec 32 := 1#32
  let v1347 : BitVec 32 := Scalar.muli v5 c1_i32_1587
  let v1348 : BitVec 32 := Scalar.addi c0_i32_1588 v1347
  v1348.toNat
def k0_dev43 (d0 : Dev nD) : Nat :=
  let c0_i32_1645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1644 : BitVec 32 := 1#32
  let v1405 : BitVec 32 := Scalar.muli v7 c1_i32_1644
  let v1406 : BitVec 32 := Scalar.addi c0_i32_1645 v1405
  v1406.toNat
def k0_dev44 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1686 : BitVec 32 := 1#32
  let v1436 : BitVec 32 := Scalar.muli v5 c1_i32_1686
  let v1437 : BitVec 32 := Scalar.addi c0_i32_1687 v1436
  v1437.toNat
def k0_dev45 (d0 : Dev nD) : Nat :=
  let c0_i32_1729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1728 : BitVec 32 := 1#32
  let v1467 : BitVec 32 := Scalar.muli v7 c1_i32_1728
  let v1468 : BitVec 32 := Scalar.addi c0_i32_1729 v1467
  v1468.toNat
def k0_dev46 (d0 : Dev nD) : Nat :=
  let c0_i32_1771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1770 : BitVec 32 := 1#32
  let v1498 : BitVec 32 := Scalar.muli v5 c1_i32_1770
  let v1499 : BitVec 32 := Scalar.addi c0_i32_1771 v1498
  v1499.toNat
def k0_dev47 (d0 : Dev nD) : Nat :=
  let c0_i32_1813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1812 : BitVec 32 := 1#32
  let v1529 : BitVec 32 := Scalar.muli v7 c1_i32_1812
  let v1530 : BitVec 32 := Scalar.addi c0_i32_1813 v1529
  v1530.toNat
def k0_dev48 (d0 : Dev nD) : Nat :=
  let c0_i32_1855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1854 : BitVec 32 := 1#32
  let v1560 : BitVec 32 := Scalar.muli v5 c1_i32_1854
  let v1561 : BitVec 32 := Scalar.addi c0_i32_1855 v1560
  v1561.toNat
def k0_dev49 (d0 : Dev nD) : Nat :=
  let c0_i32_1897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1896 : BitVec 32 := 1#32
  let v1591 : BitVec 32 := Scalar.muli v7 c1_i32_1896
  let v1592 : BitVec 32 := Scalar.addi c0_i32_1897 v1591
  v1592.toNat
def k0_dev50 (d0 : Dev nD) : Nat :=
  let c0_i32_1939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1938 : BitVec 32 := 1#32
  let v1622 : BitVec 32 := Scalar.muli v5 c1_i32_1938
  let v1623 : BitVec 32 := Scalar.addi c0_i32_1939 v1622
  v1623.toNat
def k0_dev51 (d0 : Dev nD) : Nat :=
  let c0_i32_1996 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1995 : BitVec 32 := 1#32
  let v1680 : BitVec 32 := Scalar.muli v7 c1_i32_1995
  let v1681 : BitVec 32 := Scalar.addi c0_i32_1996 v1680
  v1681.toNat
def k0_dev52 (d0 : Dev nD) : Nat :=
  let c0_i32_2038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2037 : BitVec 32 := 1#32
  let v1711 : BitVec 32 := Scalar.muli v5 c1_i32_2037
  let v1712 : BitVec 32 := Scalar.addi c0_i32_2038 v1711
  v1712.toNat
def k0_dev53 (d0 : Dev nD) : Nat :=
  let c0_i32_2080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2079 : BitVec 32 := 1#32
  let v1742 : BitVec 32 := Scalar.muli v7 c1_i32_2079
  let v1743 : BitVec 32 := Scalar.addi c0_i32_2080 v1742
  v1743.toNat
def k0_dev54 (d0 : Dev nD) : Nat :=
  let c0_i32_2122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2121 : BitVec 32 := 1#32
  let v1773 : BitVec 32 := Scalar.muli v5 c1_i32_2121
  let v1774 : BitVec 32 := Scalar.addi c0_i32_2122 v1773
  v1774.toNat
def k0_dev55 (d0 : Dev nD) : Nat :=
  let c0_i32_2164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2163 : BitVec 32 := 1#32
  let v1804 : BitVec 32 := Scalar.muli v7 c1_i32_2163
  let v1805 : BitVec 32 := Scalar.addi c0_i32_2164 v1804
  v1805.toNat
def k0_dev56 (d0 : Dev nD) : Nat :=
  let c0_i32_2206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2205 : BitVec 32 := 1#32
  let v1835 : BitVec 32 := Scalar.muli v5 c1_i32_2205
  let v1836 : BitVec 32 := Scalar.addi c0_i32_2206 v1835
  v1836.toNat
def k0_dev57 (d0 : Dev nD) : Nat :=
  let c0_i32_2248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2247 : BitVec 32 := 1#32
  let v1866 : BitVec 32 := Scalar.muli v7 c1_i32_2247
  let v1867 : BitVec 32 := Scalar.addi c0_i32_2248 v1866
  v1867.toNat
def k0_dev58 (d0 : Dev nD) : Nat :=
  let c0_i32_2290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2289 : BitVec 32 := 1#32
  let v1897 : BitVec 32 := Scalar.muli v5 c1_i32_2289
  let v1898 : BitVec 32 := Scalar.addi c0_i32_2290 v1897
  v1898.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_2295 : BitVec 32 := 512#32
  let v1907 : BitVec 32 := Scalar.muli v2 c512_i32_2295
  let c0_i32_2296 : BitVec 32 := 0#32
  let v1908 : BitVec 32 := Scalar.addi v1907 c0_i32_2296
  let v1909 : Index := Scalar.indexCast v1908
  let c0_2297 : Index := 0#32
  ![v1909.toNat, 0]
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The kernel's body written by direction, step and tile: its buffers, rectangles, values and program. -/
module

public import proofs.«01_k».proof.Proof.Gen.KernelIdeal.Skeleton

@[expose] public section

set_option maxRecDepth 65536

noncomputable section

namespace Cert.KernelIdeal.Ring

open Idealize.ShloMosaic Idealize.SL.Sem Cert.KernelIdeal Cert.KernelIdeal.Gen

variable {F : FTy → Type} [FloatOps F]

/-! ## The vocabulary of the ring

A step `s` of the ring (0 to 6) sends its tiles in `f8E4M3FN` while `s < 2` and in `bf16` after that.
`true` is the clockwise ring (left half of the columns), `false` the other one. -/

/-- Whether step `s` travels in the 8-bit format. -/
def nar (s : ℕ) : Bool := Nat.blt s 2

/-- The element type on the wire: 8 bits or 16. -/
def ety : Bool → EltTy
  | true => .fp8e4m3
  | false => .bf16

/-- How many steps a receive buffer of that width has slots for. -/
def rnum : Bool → ℕ
  | true => 2
  | false => 5

/-- The slot of step `s` in the receive buffer of its width. -/
def ridx (s : ℕ) : ℕ := bif nar s then s else s - 2

/-- The shape of the receive buffer of a width. -/
abbrev rsh (b : Bool) : Shape := ⟨4, ![rnum b, 4, 128, 1024]⟩

/-- Back from the wire to the accumulator's format. -/
def up (b : Bool) : Vec F S128x1024 (ety b) → FVec F S128x1024 .bf16 :=
  match b with
  | true => fun v => extf (φ := .fp8e4m3) .bf16 v bitsLt_fp8e4m3_bf16
  | false => fun v => v

/-- From the accumulator's format to the wire. -/
def down (b : Bool) : FVec F S128x1024 .bf16 → Vec F S128x1024 (ety b) :=
  match b with
  | true => fun v => truncf .fp8e4m3 v bitsLt_fp8e4m3_bf16
  | false => fun v => v

/-- Choose by direction. -/
def sel {α : Type} (d : Bool) (a b : α) : α :=
  match d with
  | true => a
  | false => b

/-- The buffers and semaphores the body is called with. -/
structure Bufs where
  x : Memref sig .tc .vmem S4096x512 .fp8e4m3
  hx : x.IsWhole
  w : Memref sig .tc .vmem S512x2048 .fp8e4m3
  hw : w.IsWhole
  sx : Memref sig .tc .smem S1 .f32
  hsx : sx.IsWhole
  sw : Memref sig .tc .smem S1 .f32
  hsw : sw.IsWhole
  out : Memref sig .tc .hbm S512x2048 .f32
  hout : out.IsWhole
  stage : Memref sig .tc .vmem S4x128x2048 .f32
  hstage : stage.IsWhole
  send8 : Bool → Memref sig .tc .vmem S4x128x1024 .fp8e4m3
  hsend8 : ∀ d, (send8 d).IsWhole
  send16 : Bool → Memref sig .tc .vmem S4x128x1024 .bf16
  hsend16 : ∀ d, (send16 d).IsWhole
  recv8 : Bool → Memref sig .tc .vmem S2x4x128x1024 .fp8e4m3
  hrecv8 : ∀ d, (recv8 d).IsWhole
  recv16 : Bool → Memref sig .tc .vmem S5x4x128x1024 .bf16
  hrecv16 : ∀ d, (recv16 d).IsWhole
  outSems : DmaSems sig S4
  sendSems : Bool → DmaSems sig S4
  recvSems : Bool → DmaSems sig S7x4

namespace Bufs
variable (B : Bufs)

/-- The send buffer of a width. -/
def send (d b : Bool) : Memref sig .tc .vmem S4x128x1024 (ety b) :=
  match b with
  | true => B.send8 d
  | false => B.send16 d

/-- A send buffer is a whole array. -/
theorem hsend (d b : Bool) : (B.send d b).IsWhole := by
  cases b
  · exact B.hsend16 d
  · exact B.hsend8 d

/-- The receive buffer of a width. -/
def recv (d b : Bool) : Memref sig .tc .vmem (rsh b) (ety b) :=
  match b with
  | true => B.recv8 d
  | false => B.recv16 d

/-- A receive buffer is a whole array. -/
theorem hrecv (d b : Bool) : (B.recv d b).IsWhole := by
  cases b
  · exact B.hrecv16 d
  · exact B.hrecv8 d

end Bufs

/-- A step's slot lies in the receive buffer of the step's width. -/
theorem ridx_lt (s : Fin 7) : ridx s.val < rnum (nar s.val) := by
  revert s; decide

/-- The slot of step `s`. -/
def slotOf (s : Fin 7) : Fin (rnum (nar s.val)) := ⟨ridx s.val, ridx_lt s⟩

/-- Tile `t` lies in a send buffer. -/
theorem inbSend (t : Fin 4) : ∀ a, (![t.val, 0, 0] : Fin 3 → Nat) a + S1x128x1024.size a ≤ S4x128x1024.size a := by
  revert t; decide

/-- Slot `i`, tile `t` lies in a receive buffer. -/
theorem inbRecv (b : Bool) (i : Fin (rnum b)) (t : Fin 4) :
    ∀ a, (![i.val, t.val, 0, 0] : Fin 4 → Nat) a + S1x1x128x1024.size a ≤ (rsh b).size a := by
  cases b
  · change Fin 5 at i
    revert i t; decide
  · change Fin 2 at i
    revert i t; decide

/-- The rows of tile `t` lie in the output. -/
theorem inbRows (t : Fin 4) : ∀ a, (![128 * t.val, 0] : Fin 2 → Nat) a + S128x2048.size a ≤ S512x2048.size a := by
  revert t; decide

/-- Tile `t` lies in the staging buffer. -/
theorem inbStage (t : Fin 4) : ∀ a, (![t.val, 0, 0] : Fin 3 → Nat) a + S1x128x2048.size a ≤ S4x128x2048.size a := by
  revert t; decide

/-- The first column of a ring's half. -/
def col (d : Bool) : ℕ := sel d 0 1024

/-- A half of the columns lies in the second matrix. -/
theorem inbHalf (d : Bool) : ∀ a, (![0, col d] : Fin 2 → Nat) a + S512x1024.size a ≤ S512x2048.size a := by
  revert d; decide

/-- Half of tile `t` lies in the staging buffer. -/
theorem inbStageHalf (d : Bool) (t : Fin 4) :
    ∀ a, (![t.val, 0, col d] : Fin 3 → Nat) a + S1x128x1024.size a ≤ S4x128x2048.size a := by
  revert d t; decide

/-- Tile `t` has a semaphore in an array of four. -/
theorem inbSem (t : Fin 4) : ∀ a, (![t.val] : Fin 1 → Nat) a + S1.size a ≤ S4.size a := by
  revert t; decide

/-- Step `s`, tile `t` has a semaphore in an array of seven by four. -/
theorem inbSem2 (s : Fin 7) (t : Fin 4) : ∀ a, (![s.val, t.val] : Fin 2 → Nat) a + S1x1.size a ≤ S7x4.size a := by
  revert s t; decide

/-- The rows of tile `t` lie in a block of 512. -/
theorem slicesT (t : Fin 4) : S512x1024.Slices ![128 * t.val, 0] S128x1024 := by
  revert t; decide

/-- The rectangle of tile `t` in a send buffer. -/
abbrev sendRect (t : Fin 4) : Rect S4x128x1024 :=
  Rect.unit (s := S4x128x1024) ![t.val, 0, 0] S1x128x1024.size (inbSend t)

/-- The rectangle of slot `i`, tile `t` in a receive buffer. -/
abbrev recvRect (b : Bool) (i : Fin (rnum b)) (t : Fin 4) : Rect (rsh b) :=
  Rect.unit (s := rsh b) ![i.val, t.val, 0, 0] S1x1x128x1024.size (inbRecv b i t)

/-- A tile of a send buffer takes up whole words. -/
theorem wordsSend (b : Bool) (t : Fin 4) : (sendRect t).WholeWords (EltTy.packing (ety b)) := by
  cases b <;> revert t <;> decide +kernel

/-- A tile of a send buffer has packed rows. -/
theorem packedSend (b : Bool) (t : Fin 4) : (sendRect t).PackedRows (EltTy.packing (ety b)) := by
  cases b <;> revert t <;> decide +kernel

/-- A tile of a receive buffer takes up whole words. -/
theorem wordsRecv (b : Bool) (i : Fin (rnum b)) (t : Fin 4) :
    (recvRect b i t).WholeWords (EltTy.packing (ety b)) := by
  cases b
  · change Fin 5 at i
    revert i t; decide +kernel
  · change Fin 2 at i
    revert i t; decide +kernel

namespace Bufs
variable (B : Bufs)

/-- Tile `t` of the send buffer of a width, as the DMA sees it. -/
def sendSlot (d b : Bool) (t : Fin 4) : Memref sig .tc .vmem S128x1024 (ety b) :=
  ((B.send d b).slice (sendRect t) (fun _ => rfl)).squeeze S128x1024 squeezes_S1x128x1024_S128x1024

/-- Slot `(s, t)` of the receive buffers, as the DMA sees it. -/
def recvSlot (d : Bool) (s : Fin 7) (t : Fin 4) : Memref sig .tc .vmem S128x1024 (ety (nar s.val)) :=
  ((B.recv d (nar s.val)).slice (recvRect (nar s.val) (slotOf s) t) (fun _ => rfl)).squeeze S128x1024
    squeezes_S1x1x128x1024_S128x1024

/-- Tile `t` of the output's staging buffer. -/
def stageSlot (t : Fin 4) : Memref sig .tc .vmem S128x2048 .f32 :=
  (B.stage.slice (Rect.unit (s := S4x128x2048) ![t.val, 0, 0] S1x128x2048.size (inbStage t)) (fun _ => rfl)).squeeze
    S128x2048 squeezes_S1x128x2048_S128x2048

/-- Rows `128 t …` of the output. -/
def outRows (t : Fin 4) : Memref sig .tc .hbm S128x2048 .f32 :=
  B.out.slice (Rect.unit (s := S512x2048) ![128 * t.val, 0] S128x2048.size (inbRows t)) (fun _ => rfl)

/-- The semaphore of output tile `t`. -/
def outSem (t : Fin 4) : DmaSem sig :=
  ((B.outSems.slice (Rect.unit (s := S4) ![t.val] S1.size (inbSem t))).squeeze S_ squeezes_S1_S_).sem

/-- The send semaphore of tile `t`. -/
def sendSem (d : Bool) (t : Fin 4) : DmaSem sig :=
  (((B.sendSems d).slice (Rect.unit (s := S4) ![t.val] S1.size (inbSem t))).squeeze S_ squeezes_S1_S_).sem

/-- The receive semaphore of slot `(s, t)`. -/
def recvSem (d : Bool) (s : Fin 7) (t : Fin 4) : DmaSem sig :=
  (((B.recvSems d).slice (Rect.unit (s := S7x4) ![s.val, t.val] S1x1.size (inbSem2 s t))).squeeze S_
    squeezes_S1x1_S_).sem

/-- A copy out of a send slot moves whole words. -/
theorem sendExact (d b : Bool) (t : Fin 4) : (B.sendSlot d b t).view.WordExact :=
  ((B.hsend d b).wordExact_slice rfl _ (wordsSend b t)).reshape _ _

/-- A copy into a receive slot moves whole words. -/
theorem recvExact (d : Bool) (s : Fin 7) (t : Fin 4) : (B.recvSlot d s t).view.WordExact :=
  ((B.hrecv d (nar s.val)).wordExact_slice rfl _ (wordsRecv _ (slotOf s) t)).reshape _ _

/-- A copy out of a staged tile moves whole words. -/
theorem stageExact (t : Fin 4) : (B.stageSlot t).view.WordExact := (View.wordExact_bits rfl).reshape _ _

/-- A copy into a tile of the output moves whole words. -/
theorem outExact (t : Fin 4) : (B.outRows t).view.WordExact := View.wordExact_bits rfl

end Bufs

/-! ## The values -/

/-- Tile `t` of the first step: the product of 128 rows, rounded to `bf16`. -/
def firstVal (x : Vec F S128x512 .fp8e4m3) (w : Vec F S512x1024 .fp8e4m3) : FVec F S128x1024 .bf16 :=
  truncf .bf16 (matmul dot_S128x512_S512x1024_S128x1024_1_0_0_1_n_n none
    (extf .bf16 (shapeCast S128x512 x shapeCasts_S128x512_S128x512 : FVec F S128x512 .fp8e4m3) bitsLt_fp8e4m3_bf16)
    (extf .bf16 (shapeCast S512x1024 w shapeCasts_S512x1024_S512x1024 : FVec F S512x1024 .fp8e4m3) bitsLt_fp8e4m3_bf16)
    (constant S128x1024 .f32 0x00000000#32)) bitsLt_bf16_f32

/-- A partial product of a whole block of 512 rows, rounded to `bf16`. -/
def partVal (x : Vec F S512x512 .fp8e4m3) (w : Vec F S512x1024 .fp8e4m3) : FVec F S512x1024 .bf16 :=
  truncf .bf16 (matmul dot_S512x512_S512x1024_S512x1024_1_0_0_1_n_n none
    (extf .bf16 (shapeCast S512x512 x shapeCasts_S512x512_S512x512 : FVec F S512x512 .fp8e4m3) bitsLt_fp8e4m3_bf16)
    (extf .bf16 (shapeCast S512x1024 w shapeCasts_S512x1024_S512x1024 : FVec F S512x1024 .fp8e4m3) bitsLt_fp8e4m3_bf16)
    (constant S512x1024 .f32 0x00000000#32)) bitsLt_bf16_f32

/-- Rows `128 t …` of a block. -/
def rowsOf (t : Fin 4) (p : FVec F S512x1024 .bf16) : FVec F S128x1024 .bf16 :=
  extractStridedSlice S128x1024 ![128 * t.val, 0] p (slicesT t)

/-- What a tile's step adds up: its own rows and what arrived. -/
def addVal (b : Bool) (t : Fin 4) (p : FVec F S512x1024 .bf16) (v : Vec F S128x1024 (ety b)) : FVec F S128x1024 .bf16 :=
  addf (rowsOf t p) (up b v)

/-- The activation of a tile: scale, clip, and multiply by the logistic of the clipped value. -/
def actVal (sc : F .f32) (v : FVec F S128x1024 .f32) : FVec F S128x1024 .f32 :=
  let y := mulf v (broadcast S128x1024 sc)
  mulf y (divf (broadcast S128x1024 (Scalar.ofBits .f32 0x3F800000#32))
    (addf (broadcast S128x1024 (Scalar.ofBits .f32 0x3F800000#32))
      (exp (subf (broadcast S128x1024 (Scalar.ofBits .f32 0x00000000#32))
        (minimumf (broadcast S128x1024 (Scalar.ofBits .f32 0x42700000#32))
          (maximumf (broadcast S128x1024 (Scalar.ofBits .f32 0xC2700000#32)) y))))))

/-- The last tile: the sum in `f32`, activated. -/
def lastVal (t : Fin 4) (p : FVec F S512x1024 .bf16) (sc : F .f32) (v : FVec F S128x1024 .bf16) : FVec F S128x1024 .f32 :=
  actVal sc (addf (extf .f32 (rowsOf t p) bitsLt_bf16_f32) (extf .f32 v bitsLt_bf16_f32))

/-! ## The program, by directions, steps and tiles -/

/-- The device a ring sends to. -/
def toDev (d : Bool) (c : Dev nD) : Dev nD :=
  match d with
  | true => ⟨k0_dev3 c, k0_dev3_lt c⟩
  | false => ⟨k0_dev4 c, k0_dev4_lt c⟩

/-- Where the rows of the first step's tile `t` begin. -/
def off0 (d : Bool) (c : Dev nD) (t : Fin 4) : Fin 2 → Nat :=
  match d with
  | true => k0_off1 c (BitVec.ofNat 32 (128 * t.val))
  | false => k0_off2 c (BitVec.ofNat 32 (128 * t.val))

/-- The rows of a first step's tile lie in the first matrix. -/
theorem off0_inb (d : Bool) (c : Dev nD) (t : Fin 4) : ∀ a, off0 d c t a + S128x512.size a ≤ S4096x512.size a := by
  cases d
  · exact k0_off2_inb c t
  · exact k0_off1_inb c t

/-- Where the rows of a middle step's block begin. -/
def offM (d : Bool) (c : Dev nD) (s : Fin 6) : Fin 2 → Nat :=
  match d with
  | true => k0_off3 c (BitVec.ofNat 32 (9 + (5 - s.val)))
  | false => k0_off4 c (BitVec.ofNat 32 (1 + s.val))

/-- The rows of a middle step's block lie in the first matrix. -/
theorem offM_inb (d : Bool) (c : Dev nD) (s : Fin 6) : ∀ a, offM d c s a + S512x512.size a ≤ S4096x512.size a := by
  cases d
  · exact k0_off4_inb c s
  · exact k0_off3_inb c ⟨5 - s.val, by omega⟩

/-- A program of a device. -/
abbrev TProg (F : FTy → Type) [FloatOps F] (α : Type) : Type 1 := Prog (TpuEff nD τ sig (Elt F) Λ₀ .tc) α

namespace Bufs
variable (B : Bufs)

/-- Load a half of the second matrix. -/
def loadW (d : Bool) : TProg F (Vec F S512x1024 .fp8e4m3) :=
  Prog.lift (.load B.w (Rect.unit (s := S512x2048) ![0, col d] S512x1024.size (inbHalf d)).toLoadRect
    (View.loadsAt_vmem h_S512x1024))

/-- Load the rows of a first step's tile. -/
def loadX0 (d : Bool) (c : Dev nD) (t : Fin 4) : TProg F (Vec F S128x512 .fp8e4m3) :=
  Prog.lift (.load B.x (Rect.unit (s := S4096x512) (off0 d c t) S128x512.size (off0_inb d c t)).toLoadRect
    (View.loadsAt_vmem h_S128x512))

/-- Load the rows of a middle step's block. -/
def loadXM (d : Bool) (c : Dev nD) (s : Fin 6) : TProg F (Vec F S512x512 .fp8e4m3) :=
  Prog.lift (.load B.x (Rect.unit (s := S4096x512) (offM d c s) S512x512.size (offM_inb d c s)).toLoadRect
    (View.loadsAt_vmem h_S512x512))

/-- Load the rows of the last step's block. -/
def loadXL (c : Dev nD) : TProg F (Vec F S512x512 .fp8e4m3) :=
  Prog.lift (.load B.x (Rect.unit (s := S4096x512) (k0_off5 c) S512x512.size (k0_off5_inb c)).toLoadRect
    (View.loadsAt_vmem h_S512x512))

/-- Put a tile into the send buffer and start its transfer to slot `(s, t)` of the neighbour. -/
def push (d : Bool) (c : Dev nD) (s : Fin 7) (t : Fin 4) (v : FVec F S128x1024 .bf16) : TProg F PUnit := do
  let _ ← Prog.lift (.load (B.send d (nar s.val)) (sendRect t).toLoadRect (View.loadsAt_vmem h_S1x128x1024))
  Prog.lift (.store (B.send d (nar s.val)) (sendRect t)
    (shapeCast S1x128x1024 (down (nar s.val) v) shapeCasts_S128x1024_S1x128x1024) Finset.univ
    (View.stores_vmem h_S1x128x1024 ((B.hsend d (nar s.val)).storeExact_slice rfl _ (packedSend _ t)) (fun _ => rfl))
    (.inl rfl))
  Prog.lift (.enqueueDma (B.sendSlot d (nar s.val) t)
    (.remote (Dev.tc (toDev d c)) (B.recvSlot d s t) (.dma (B.sendSem d t))) (.dma (B.recvSem d s t))
    (B.sendExact d _ t) (B.recvExact d s t) ⟨⟨rfl, Or.inl rfl⟩, trivial⟩)

/-- Wait for slot `(s, t)` and read it. -/
def pull (d : Bool) (s : Fin 7) (t : Fin 4) : TProg F (Vec F S128x1024 (ety (nar s.val))) := do
  Prog.lift (.waitDma2 (B.recvSem d s t) (B.sendSlot d (nar s.val) t) (B.recvSlot d s t)
    (B.sendExact d _ t) (B.recvExact d s t))
  let v ← Prog.lift (.load (B.recv d (nar s.val)) (recvRect (nar s.val) (slotOf s) t).toLoadRect
    (View.loadsAt_vmem h_S1x1x128x1024))
  pure (shapeCast S128x1024 v shapeCasts_S1x1x128x1024_S128x1024)

/-- Wait until the send buffer of step `s`'s tile `t` is free again. -/
def waitSent (d : Bool) (s : Fin 7) (t : Fin 4) : TProg F PUnit :=
  Prog.lift (.waitDma2 (B.sendSem d t) (B.recvSlot d s t) (B.sendSlot d (nar s.val) t)
    (B.recvExact d s t) (B.sendExact d _ t))

/-- One tile of the first step. -/
def firstTile (d : Bool) (c : Dev nD) (t : Fin 4) : TProg F PUnit := do
  let x ← B.loadX0 d c t
  let w ← B.loadW d
  B.push d c 0 t (firstVal x w)

/-- One tile of a middle step: receive step `s`'s, add, and send on as step `s + 1`'s. -/
def midTile (d : Bool) (c : Dev nD) (s : Fin 6) (t : Fin 4) (p : FVec F S512x1024 .bf16) : TProg F PUnit := do
  let v ← B.pull d s.castSucc t
  B.waitSent d s.castSucc t
  B.push d c s.succ t (addVal _ t p v)

/-- A middle step. -/
def midStep (c : Dev nD) (s : Fin 6) : TProg F PUnit := do
  let x ← B.loadXM true c s
  let w ← B.loadW true
  let x' ← B.loadXM false c s
  let w' ← B.loadW false
  B.midTile true c s 0 (partVal x w)
  B.midTile false c s 0 (partVal x' w')
  B.midTile true c s 1 (partVal x w)
  B.midTile false c s 1 (partVal x' w')
  B.midTile true c s 2 (partVal x w)
  B.midTile false c s 2 (partVal x' w')
  B.midTile true c s 3 (partVal x w)
  B.midTile false c s 3 (partVal x' w')

/-- Half a tile of the last step: receive step 6's, add, activate and put into the staging buffer. -/
def lastHalf (d : Bool) (t : Fin 4) (sc : F .f32) (p : FVec F S512x1024 .bf16) : TProg F PUnit := do
  let v ← B.pull d 6 t
  let _ ← Prog.lift (.load B.stage (Rect.unit (s := S4x128x2048) ![t.val, 0, col d] S1x128x1024.size
    (inbStageHalf d t)).toLoadRect (View.loadsAt_vmem h_S1x128x1024))
  Prog.lift (.store B.stage (Rect.unit (s := S4x128x2048) ![t.val, 0, col d] S1x128x1024.size (inbStageHalf d t))
    (shapeCast S1x128x1024 (lastVal t p sc v) shapeCasts_S128x1024_S1x128x1024) Finset.univ
    (View.stores_vmem_bits_univ h_S1x128x1024 rfl) (.inl rfl))

/-- One tile of the last step. -/
def lastTile (t : Fin 4) (sc : F .f32) (p q : FVec F S512x1024 .bf16) : TProg F PUnit := do
  B.lastHalf true t sc p
  B.lastHalf false t sc q
  Prog.lift (.enqueueDma (B.stageSlot t) (.here (B.outRows t)) (.dma (B.outSem t)) (B.stageExact t) (B.outExact t)
    ⟨Or.inl rfl, trivial⟩)

/-- Wait for an output tile's copy. -/
def waitOut (t : Fin 4) : TProg F PUnit :=
  Prog.lift (.waitDma2 (B.outSem t) (B.stageSlot t) (B.outRows t) (B.stageExact t) (B.outExact t))

/-- The last step. -/
def lastStep (c : Dev nD) : TProg F PUnit := do
  let x ← B.loadXL c
  let w ← B.loadW true
  let x' ← B.loadXL c
  let w' ← B.loadW false
  let a ← smemLoad B.sx (Rect.unit (s := S1) ![0] S1.size inb_S1_S1_0) numel1_S1 rfl
  let b ← smemLoad B.sw (Rect.unit (s := S1) ![0] S1.size inb_S1_S1_0) numel1_S1 rfl
  B.lastTile 0 (Scalar.mulf a b) (partVal x w) (partVal x' w')
  B.lastTile 1 (Scalar.mulf a b) (partVal x w) (partVal x' w')
  B.lastTile 2 (Scalar.mulf a b) (partVal x w) (partVal x' w')
  B.lastTile 3 (Scalar.mulf a b) (partVal x w) (partVal x' w')

/-- The handshake with both neighbours. -/
def hello (c : Dev nD) : TProg F PUnit := do
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semWaitWord (SemArray.scalar (sig.barrier 0 rfl) : Sems sig S_).sem 2#32

/-- The first step. -/
def firstStep (c : Dev nD) : TProg F PUnit := do
  B.firstTile true c 0
  B.firstTile false c 0
  B.firstTile true c 1
  B.firstTile false c 1
  B.firstTile true c 2
  B.firstTile false c 2
  B.firstTile true c 3
  B.firstTile false c 3

/-- The waits that drain the last sends and the output copies. -/
def drain : TProg F PUnit := do
  B.waitSent true 6 0
  B.waitSent false 6 0
  B.waitSent true 6 1
  B.waitSent false 6 1
  B.waitSent true 6 2
  B.waitSent false 6 2
  B.waitSent true 6 3
  B.waitSent false 6 3
  B.waitOut 0
  B.waitOut 1
  B.waitOut 2
  B.waitOut 3

/-- The whole body. -/
def prog : TProg F PUnit := do
  let c ← Prog.lift .deviceId
  hello c
  B.firstStep c
  B.midStep c 0
  B.midStep c 1
  B.midStep c 2
  B.midStep c 3
  B.midStep c 4
  B.midStep c 5
  B.lastStep c
  B.drain

end Bufs

end Cert.KernelIdeal.Ring
-- ==== Proof.ProgEq.lean ====
/- The program by direction, step and tile is the printed body. -/
module

public import proofs.«01_k».proof.Proof.Prog

@[expose] public section

set_option maxRecDepth 65536

noncomputable section

namespace Cert.KernelIdeal.Ring

open Idealize.ShloMosaic Idealize.SL.Sem Cert.KernelIdeal Cert.KernelIdeal.Gen

variable {F : FTy → Type} [FloatOps F]

set_option maxHeartbeats 4000000 in
/-- The printed body is the program by directions, steps and tiles. -/
theorem body_eq (B : Bufs) :
    cc0_body (F := F) B.x B.hx B.w B.hw B.sx B.hsx B.sw B.hsw B.out B.hout B.stage B.hstage
      (B.send8 true) (B.hsend8 true) (B.send8 false) (B.hsend8 false)
      (B.send16 true) (B.hsend16 true) (B.send16 false) (B.hsend16 false)
      (B.recv8 true) (B.hrecv8 true) (B.recv8 false) (B.hrecv8 false)
      (B.recv16 true) (B.hrecv16 true) (B.recv16 false) (B.hrecv16 false)
      B.outSems (B.sendSems true) (B.sendSems false) (B.recvSems true) (B.recvSems false) = B.prog := by
  rw [cc0_body_eq_skeleton]
  rfl

end Cert.KernelIdeal.Ring
-- ==== Proof.Cells.lean ====
/- The semaphores, what is computed, the schedule of payments and the order of waits. -/
module

public import proofs.«01_k».proof.Proof.ProgEq
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's rounds beside the ring's, whose duties are named by a `Bool`. -/
abbrev UB : Type := URounds (GSem nD τ sig) Bool
/-- The user's resources: the pipeline's and the rounds'. -/
abbrev UU : Type := UR sig nD τ × UB

local notation "𝕄" => MT nD τ sig Unit (Elt F) ℕ UU ℕ

/-- The pipeline's resources among them. -/
abbrev EP : Emb (UR sig nD τ) (MT nD τ sig Unit (Elt F) ℕ UU ℕ) := embL
/-- The rounds' resources among them. -/
abbrev ER : Emb UB (MT nD τ sig Unit (Elt F) ℕ UU ℕ) := embR

/-! ## The buffers and semaphores the kernel is called with -/

/-- The kernel's own buffers. -/
def bufs : Bufs where
  x := Memref.whole cc0_stg0_0
  hx := Memref.isWhole_whole _
  w := Memref.whole cc0_stg1_0
  hw := Memref.isWhole_whole _
  sx := Memref.whole cc0_stg2_0
  hsx := Memref.isWhole_whole _
  sw := Memref.whole cc0_stg3_0
  hsw := Memref.isWhole_whole _
  out := Memref.whole main_v1
  hout := Memref.isWhole_whole _
  stage := Memref.whole cc0_scratch0
  hstage := Memref.isWhole_whole _
  send8 := fun d => match d with | true => Memref.whole cc0_scratch1 | false => Memref.whole cc0_scratch2
  hsend8 := fun d => match d with | true => Memref.isWhole_whole _ | false => Memref.isWhole_whole _
  send16 := fun d => match d with | true => Memref.whole cc0_scratch3 | false => Memref.whole cc0_scratch4
  hsend16 := fun d => match d with | true => Memref.isWhole_whole _ | false => Memref.isWhole_whole _
  recv8 := fun d => match d with | true => Memref.whole cc0_scratch5 | false => Memref.whole cc0_scratch6
  hrecv8 := fun d => match d with | true => Memref.isWhole_whole _ | false => Memref.isWhole_whole _
  recv16 := fun d => match d with | true => Memref.whole cc0_scratch7 | false => Memref.whole cc0_scratch8
  hrecv16 := fun d => match d with | true => Memref.isWhole_whole _ | false => Memref.isWhole_whole _
  outSems := cc0_scratch9
  sendSems := fun d => match d with | true => cc0_scratch10 | false => cc0_scratch11
  recvSems := fun d => match d with | true => cc0_scratch12 | false => cc0_scratch13

/-- The barrier semaphore. -/
abbrev barS : Sem sig := (SemArray.scalar (sig.barrier 0 rfl) : Sems sig S_).sem

/-- A device's cells: the barrier, the output tiles', the send semaphores, the receive semaphores. -/
abbrev CK : Type := Unit ⊕ Fin 4 ⊕ (Bool × Fin 4) ⊕ (Bool × Fin 7 × Fin 4)
@[match_pattern] abbrev kBar : CK := Sum.inl ()
@[match_pattern] abbrev kOut (t : Fin 4) : CK := Sum.inr (Sum.inl t)
@[match_pattern] abbrev kSnd (d : Bool) (t : Fin 4) : CK := Sum.inr (Sum.inr (Sum.inl (d, t)))
@[match_pattern] abbrev kRcv (d : Bool) (s : Fin 7) (t : Fin 4) : CK := Sum.inr (Sum.inr (Sum.inr (d, s, t)))

/-- The semaphore of a cell. -/
def semOf : CK → SemLoc sig
  | kBar => .reg barS
  | kOut t => .dma (bufs.outSem t)
  | kSnd d t => .dma (bufs.sendSem d t)
  | kRcv d s t => .dma (bufs.recvSem d s t)

/-- Which cell a DMA semaphore of a given index is. -/
def kindN (n : ℕ) : Option CK :=
  if n < 4 then none
  else if n < 8 then some (kOut (Fin.ofNat 4 (n - 4)))
  else if n < 16 then some (kSnd (Nat.blt n 12) (Fin.ofNat 4 (n - 8)))
  else some (kRcv (Nat.blt n 44) (Fin.ofNat 7 (((n - 16) % 28) / 4)) (Fin.ofNat 4 (n - 16)))

/-- Which cell a semaphore is; the staging semaphores are none. -/
def kind : SemLoc sig → Option CK
  | .reg _ => some kBar
  | .dma i => kindN i.val

/-- A semaphore's kind is the kind that it was made of. -/
theorem kind_semOf (k : CK) : kind (semOf k) = some k := by
  match k with
  | kBar => rfl
  | kOut t => revert t; decide +kernel
  | kSnd d t => revert d t; decide +kernel
  | kRcv d s t => revert d s t; decide +kernel

/-- Two kinds have two semaphores. -/
theorem semOf_inj : Function.Injective semOf := fun a b h => by
  have := congrArg kind h
  rw [kind_semOf, kind_semOf] at this
  exact Option.some.inj this

/-- A device's semaphore of a kind. -/
abbrev cell (c : Dev nD) (k : CK) : GSem nD τ sig := ((c : Thread nD τ), semOf k)

/-! ## The ring of devices -/

/-- The first device that is signalled is the left neighbour. -/
theorem dev1_eq (c : Dev nD) : (⟨k0_dev1 c, k0_dev1_lt c⟩ : Dev nD) = toDev false c :=
  Fin.ext ((k0_dev1_eq c).trans (k0_dev4_eq c).symm)

/-- The second device that is signalled is the right neighbour. -/
theorem dev2_eq (c : Dev nD) : (⟨k0_dev2 c, k0_dev2_lt c⟩ : Dev nD) = toDev true c :=
  Fin.ext ((k0_dev2_eq c).trans (k0_dev3_eq c).symm)

/-- The first ring sends to the right. -/
theorem toDev_true (c : Dev nD) : (toDev true c).val = (c.val + 1) % 8 := k0_dev3_eq c
/-- The second ring sends to the left. -/
theorem toDev_false (c : Dev nD) : (toDev false c).val = (c.val + 7) % 8 := k0_dev4_eq c

/-- The device a ring receives from. -/
abbrev src (d : Bool) (c : Dev nD) : Dev nD := toDev (!d) c

/-- Against a ring and along it leads back. -/
theorem toDev_not (d : Bool) (c : Dev nD) : toDev d (toDev (!d) c) = c := by
  have h : c.val < 8 := c.isLt
  cases d <;> apply Fin.ext
  · rw [Bool.not_false, toDev_false, toDev_true]; omega
  · rw [Bool.not_true, toDev_true, toDev_false]; omega

/-- Along a ring and against it leads back. -/
theorem not_toDev (d : Bool) (c : Dev nD) : toDev (!d) (toDev d c) = c := by
  have := toDev_not (!d) c
  rwa [Bool.not_not] at this

/-- One step of a ring, as a permutation of the devices. -/
def step (d : Bool) : Dev nD ≃ Dev nD := ⟨toDev d, toDev (!d), not_toDev d, toDev_not d⟩

/-! ## What travels -/

/-- What the devices are given: each its block of `x`, its block of `w`, and the two scales. -/
structure Inp (F : FTy → Type) where
  X : Dev nD → Vec F S4096x512 .fp8e4m3
  W : Dev nD → Vec F S512x2048 .fp8e4m3
  SX : Dev nD → Vec F S1 .f32
  SW : Dev nD → Vec F S1 .f32

variable (I : Inp F)

/-- The rows of a first step's tile. -/
abbrev rX0 (d : Bool) (c : Dev nD) (t : Fin 4) : Rect S4096x512 :=
  Rect.unit (s := S4096x512) (off0 d c t) S128x512.size (off0_inb d c t)
/-- The rows of a middle step's block. -/
abbrev rXM (d : Bool) (c : Dev nD) (s : Fin 6) : Rect S4096x512 :=
  Rect.unit (s := S4096x512) (offM d c s) S512x512.size (offM_inb d c s)
/-- The rows of the last step's block. -/
abbrev rXL (c : Dev nD) : Rect S4096x512 :=
  Rect.unit (s := S4096x512) (k0_off5 c) S512x512.size (k0_off5_inb c)
/-- A half of the second matrix. -/
abbrev rW (d : Bool) : Rect S512x2048 :=
  Rect.unit (s := S512x2048) ![0, col d] S512x1024.size (inbHalf d)
/-- A scale. -/
abbrev rS : Rect S1 := Rect.unit (s := S1) ![0] S1.size inb_S1_S1_0

/-- A ring's half of device `c`'s block of `w`. -/
def wHalf (d : Bool) (c : Dev nD) : Vec F S512x1024 .fp8e4m3 :=
  bufs.w.view.readAt (Elt F) (rW d).toLoadRect (I.W c)

/-- The first step's tile. -/
def first (d : Bool) (c : Dev nD) (t : Fin 4) : FVec F S128x1024 .bf16 :=
  firstVal (bufs.x.view.readAt (Elt F) (rX0 d c t).toLoadRect (I.X c)) (wHalf I d c)

/-- A middle step's partial product. -/
def part (d : Bool) (c : Dev nD) (s : Fin 6) : FVec F S512x1024 .bf16 :=
  partVal (bufs.x.view.readAt (Elt F) (rXM d c s).toLoadRect (I.X c)) (wHalf I d c)

/-- The last step's partial product. -/
def partL (d : Bool) (c : Dev nD) : FVec F S512x1024 .bf16 :=
  partVal (bufs.x.view.readAt (Elt F) (rXL c).toLoadRect (I.X c)) (wHalf I d c)

/-- The product of the two scales. -/
def scale (c : Dev nD) : F .f32 :=
  Scalar.mulf (bufs.sx.view.readAt (Elt F) rS.toLoadRect (I.SX c) (Shape.Idx.first (numel1_S1.symm ▸ Nat.one_pos)))
    (bufs.sw.view.readAt (Elt F) rS.toLoadRect (I.SW c) (Shape.Idx.first (numel1_S1.symm ▸ Nat.one_pos)))

/-- What device `c` has summed up for tile `t` when it sends step `s`. -/
def acc (d : Bool) : ℕ → Dev nD → Fin 4 → FVec F S128x1024 .bf16
  | 0, c, t => first I d c t
  | s + 1, c, t => addVal (nar s) t (part I d c (Fin.ofNat 6 s)) (down (nar s) (acc d s (src d c) t))

/-- What device `c` puts on the wire at step `s`. -/
def sent (d : Bool) (s : ℕ) (c : Dev nD) (t : Fin 4) : Vec F S128x1024 (ety (nar s)) := down (nar s) (acc I d s c t)

/-- A step's sum is the device's own rows and what arrived. -/
theorem acc_succ (d : Bool) (s : Fin 6) (c : Dev nD) (t : Fin 4) :
    acc I d (s.val + 1) c t = addVal (nar s.val) t (part I d c s) (sent I d s.val (src d c) t) := by
  have h : Fin.ofNat 6 s.val = s := by revert s; decide
  show addVal (nar s.val) t (part I d c (Fin.ofNat 6 s.val)) (down (nar s.val) (acc I d s.val (src d c) t)) = _
  rw [h]; rfl

/-- Half of an output tile. -/
def half (d : Bool) (c : Dev nD) (t : Fin 4) : FVec F S128x1024 .f32 :=
  lastVal t (partL I d c) (scale I c) (sent I d 6 (src d c) t)

/-- The column of an output tile within its half. -/
def colIn (j : S128x2048.Idx) : S128x1024.Idx :=
  fun a => match a with
    | ⟨0, _⟩ => ⟨(j 0).val, (j 0).isLt⟩
    | ⟨1, _⟩ => ⟨(j 1).val % 1024, Nat.mod_lt _ (by decide)⟩

/-- An output tile. -/
def outTile (c : Dev nD) (t : Fin 4) : Vec F S128x2048 .f32 :=
  fun j => half I (Nat.blt (j 1).val 1024) c t (colIn j)

/-! ## The schedule -/

/-- What a transfer of a tile credits. -/
def amt (b : Bool) : ℕ := (bufs.sendSlot true b 0).view.dmaCredit
/-- What a copy of a tile to the output credits. -/
def amtOut : ℕ := (bufs.outRows 0).view.dmaCredit

/-- A transfer of a tile credits something. -/
theorem amt_pos (b : Bool) : 0 < amt b := View.dmaCredit_pos _ (by decide)
/-- A copy to the output credits something. -/
theorem amtOut_pos : 0 < amtOut := View.dmaCredit_pos _ (by decide)
/-- What a receive slot credits depends on the width alone. -/
theorem amt_recv (d : Bool) (s : Fin 7) (t : Fin 4) : (bufs.recvSlot d s t).view.dmaCredit = amt (nar s.val) := by
  unfold amt Bufs.recvSlot Bufs.sendSlot Bufs.recv Bufs.send
  cases d <;> rfl
/-- What a send slot credits depends on the width alone. -/
theorem amt_send (d b : Bool) (t : Fin 4) : (bufs.sendSlot d b t).view.dmaCredit = amt b := by
  cases d <;> cases b <;> rfl
/-- All tiles of the output credit the same. -/
theorem amt_out (t : Fin 4) : (bufs.outRows t).view.dmaCredit = amtOut := rfl

/-- Device `c`'s receive slot, at any contents. -/
def slotAny (c : Dev nD) (d : Bool) (s : Fin 7) (t : Fin 4) : sProp 𝕄 :=
  iprop(∃ v, owns (c : Thread nD τ) (bufs.recvSlot d s t) fullShare v)

/-- Device `c`'s send buffer of a width, tile `t`, at any contents. -/
def sendAny (c : Dev nD) (d b : Bool) (t : Fin 4) : sProp 𝕄 :=
  iprop(∃ v, owns (c : Thread nD τ) (bufs.sendSlot d b t) fullShare v)

/-- Device `c`'s output staging tile, at any contents. -/
def stageAny (c : Dev nD) (t : Fin 4) : sProp 𝕄 :=
  iprop(∃ v, owns (c : Thread nD τ) (bufs.stageSlot t) fullShare v)

/-- What a device hands its neighbour with the handshake: the slots of one ring and that their cells are at round 0. -/
def barPay (c : Dev nD) (d : Bool) : sProp 𝕄 :=
  bigSep Finset.univ fun t : Fin 4 => bigSep Finset.univ fun s : Fin 7 =>
    iprop(slotAny c d s t ∗ reached ER (cell c (kRcv d s t)) 0)

/-- What a finished output copy hands back. -/
def outPay (c : Dev nD) (t : Fin 4) : sProp 𝕄 :=
  iprop(stageAny c t ∗ owns (c : Thread nD τ) (bufs.outRows t) fullShare (outTile I c t))

/-- What a landed tile hands over. -/
def rcvPay (c : Dev nD) (d : Bool) (s : Fin 7) (t : Fin 4) : sProp 𝕄 :=
  owns (c : Thread nD τ) (bufs.recvSlot d s t) fullShare (sent I d s.val (src d c) t)

/-- A receive slot may be handed over. -/
instance slotAny_storable (c : Dev nD) (d s t) : BI.Storable (upEmb : UEmb _ 𝕄) (slotAny (F := F) c d s t) := by
  unfold slotAny; infer_instance
/-- A send slot may be handed over. -/
instance sendAny_storable (c : Dev nD) (d b t) : BI.Storable (upEmb : UEmb _ 𝕄) (sendAny (F := F) c d b t) := by
  unfold sendAny; infer_instance
/-- A staged tile may be handed over. -/
instance stageAny_storable (c : Dev nD) (t) : BI.Storable (upEmb : UEmb _ 𝕄) (stageAny (F := F) c t) := by
  unfold stageAny; infer_instance
/-- What goes with the handshake may be handed over. -/
instance barPay_storable (c : Dev nD) (d) : BI.Storable (upEmb : UEmb _ 𝕄) (barPay (F := F) c d) := by
  unfold barPay; infer_instance
/-- What a copy to the output hands back may be handed over. -/
instance outPay_storable (c : Dev nD) (t) : BI.Storable (upEmb : UEmb _ 𝕄) (outPay I c t) := by
  unfold outPay; infer_instance
/-- What a landing hands over may be handed over. -/
instance rcvPay_storable (c : Dev nD) (d s t) : BI.Storable (upEmb : UEmb _ 𝕄) (rcvPay I c d s t) := by
  unfold rcvPay; infer_instance

/-- The duties of a cell's round. -/
def dutiesK : CK → ℕ → Finset Bool
  | kBar, r => if r = 0 then Finset.univ else ∅
  | kOut _, r => if r = 0 then {true} else ∅
  | kSnd _ _, r => if r < 7 then {true} else ∅
  | kRcv _ _ _, r => if r = 0 then {true} else ∅

/-- The units a duty of a cell's round pays. -/
def amountK : CK → ℕ → ℕ
  | kBar, _ => 1
  | kOut _, _ => amtOut
  | kSnd _ _, r => amt (nar r)
  | kRcv _ s _, _ => amt (nar s.val)

/-- What a duty of a cell's round hands over. -/
def payK (c : Dev nD) : CK → ℕ → Bool → sProp 𝕄
  | kBar, _, d => barPay (toDev d c) d
  | kOut t, _, _ => outPay I c t
  | kSnd d t, r, _ => sendAny c d (nar r) t
  | kRcv d s t, _, _ => rcvPay I c d s t

/-- Every duty has a positive amount. -/
theorem amountK_pos (k : CK) (r : ℕ) : 0 < amountK k r := by
  match k with
  | kBar => exact Nat.one_pos
  | kOut _ => exact amtOut_pos
  | kSnd _ _ => exact amt_pos _
  | kRcv _ _ _ => exact amt_pos _

/-- Every payload may be handed over. -/
instance payK_storable (c : Dev nD) (k : CK) (r : ℕ) (d : Bool) : BI.Storable (upEmb : UEmb _ 𝕄) (payK I c k r d) := by
  match k with
  | kBar => exact barPay_storable _ _
  | kOut _ => exact outPay_storable I _ _
  | kSnd _ _ => exact sendAny_storable _ _ _ _
  | kRcv _ _ _ => exact rcvPay_storable I _ _ _ _

/-- The ring's schedule. -/
def Rd : Rounds.Schedule (GSem nD τ sig) Bool 𝕄 where
  duties g r := if g.1.2 = .tc then (match kind g.2 with | some k => dutiesK k r | none => ∅) else ∅
  unitless _ := False
  amount g r _ := match kind g.2 with | some k => amountK k r | none => 1
  payload g r d := match kind g.2 with | some k => payK I g.1.1 k r d | none => iprop(emp)
  amount_pos g r _ _ := by
    cases h : kind g.2 with
    | none => exact Nat.one_pos
    | some k => exact amountK_pos k r

/-- So the schedule's payloads may be. -/
instance Rd_payload_storable (g : GSem nD τ sig) (r : ℕ) (d : Bool) :
    BI.Storable (upEmb : UEmb _ 𝕄) ((Rd I).payload g r d) := by
  show BI.Storable upEmb (match kind g.2 with | some k => payK I g.1.1 k r d | none => iprop(emp))
  cases kind g.2 with
  | none => infer_instance
  | some k => exact payK_storable I _ _ _ _

/-- The schedule's duties, by kind. -/
theorem Rd_duties (c : Dev nD) (k : CK) (r : ℕ) : (Rd I).duties (cell c k) r = dutiesK k r := by
  show (if (c : Thread nD τ).2 = .tc then (match kind (semOf k) with | some k => dutiesK k r | none => ∅) else ∅) = _
  rw [if_pos rfl, kind_semOf]

/-- The schedule's amounts, by kind. -/
theorem Rd_amount (c : Dev nD) (k : CK) (r : ℕ) (d : Bool) : (Rd I).amount (cell c k) r d = amountK k r := by
  show (match kind (semOf k) with | some k => amountK k r | none => 1) = _
  rw [kind_semOf]

/-- The schedule's payloads, by kind. -/
theorem Rd_payload (c : Dev nD) (k : CK) (r : ℕ) (d : Bool) : (Rd I).payload (cell c k) r d = payK I c k r d := by
  show (match kind (semOf k) with | some k => payK I c k r d | none => iprop(emp)) = _
  rw [kind_semOf]

/-- A round whose one duty is `true` expects that duty's units, -/
theorem expect_one (c : Dev nD) (k : CK) (r : ℕ) (h : dutiesK k r = {true}) : (Rd I).expect (cell c k) r = amountK k r := by
  unfold Schedule.expect Schedule.amountOf
  rw [Rd_duties, h, Finset.sum_singleton, Rd_amount]

/-- and hands over that duty's payload. -/
theorem rest_one (c : Dev nD) (k : CK) (r : ℕ) (h : dutiesK k r = {true}) :
    bigSep ((Rd I).duties (cell c k) r \ ∅) (fun d => (Rd I).payload (cell c k) r d) = payK I c k r true := by
  rw [Finset.sdiff_empty, Rd_duties, h, bigSep_singleton, Rd_payload]

/-- The handshake is two signals. -/
theorem expect_bar (c : Dev nD) : (Rd I).expect (cell c kBar) 0 = 2 := by
  unfold Schedule.expect Schedule.amountOf
  rw [Rd_duties, Finset.sum_congr rfl fun d _ => Rd_amount I c kBar 0 d]
  rfl

/-- The handshake hands over the slots of both rings. -/
theorem rest_bar (c : Dev nD) :
    bigSep ((Rd I).duties (cell c kBar) 0 \ ∅) (fun d => (Rd I).payload (cell c kBar) 0 d)
      = iprop(barPay (toDev true c) true ∗ barPay (toDev false c) false) := by
  rw [Finset.sdiff_empty, Rd_duties, show dutiesK kBar 0 = Finset.univ from rfl,
    bigSep_univ_eq_bigSepL [true, false] (by decide) (by decide), bigSepL_cons_cons, bigSepL_singleton, Rd_payload, Rd_payload]
  rfl

/-- How many rounds a cell has. -/
def rounds : CK → ℕ
  | kSnd _ _ => 7
  | _ => 1

/-- After its last round a semaphore has no duties. -/
theorem duties_after (c : Dev nD) (k : CK) : ∀ r, rounds k ≤ r → (Rd I).duties (cell c k) r = ∅ := by
  intro r hr
  rw [Rd_duties]
  match k with
  | kBar => exact if_neg (by have : 1 ≤ r := hr; omega)
  | kOut _ => exact if_neg (by have : 1 ≤ r := hr; omega)
  | kSnd _ _ => exact if_neg (by have : 7 ≤ r := hr; omega)
  | kRcv _ _ _ => exact if_neg (by have : 1 ≤ r := hr; omega)

/-! ## The levels and what is owed -/

/-- The place of a transfer in the order a device starts them. -/
def idx (d : Bool) (s : Fin 7) (t : Fin 4) : ℕ := 2 * (4 * s.val + t.val) + (bif d then 0 else 1)

/-- The level of a kind: a wait is allowed below all that is still owed. -/
def lvK : Option CK → ℕ
  | some kBar => 1
  | some (kRcv d s t) => 2 + idx d s t
  | _ => 0

/-- The labels of a semaphore. -/
def L (g : GSem nD τ sig) : Finset Unit := if g.1.2 = .tc then {()} else ∅
/-- The level of a semaphore. -/
def lv (g : GSem nD τ sig) (_ : Unit) : ℕ := lvK (kind g.2)

/-- Only the main cores' semaphores have a label. -/
theorem L_of_ne (g : GSem nD τ sig) (h : g.1.2 ≠ .tc) : L g = ∅ := if_neg h
/-- A main core's semaphore has one label. -/
theorem L_tc (c : Dev nD) (sm : SemLoc sig) : L ((c : Thread nD τ), sm) = {()} := if_pos rfl
/-- A device's semaphore has its kind's level. -/
theorem lv_cell (c : Dev nD) (k : CK) (u : Unit) : lv (cell c k) u = lvK (some k) := by
  show lvK (kind (semOf k)) = _; rw [kind_semOf]

/-- The transfers, named by ring, step and tile. -/
abbrev TX : Type := Bool × Fin 7 × Fin 4
/-- The place of a transfer in a device's order. -/
abbrev TX.idx (i : TX) : ℕ := Ring.idx i.1 i.2.1 i.2.2
/-- The semaphore that a transfer credits when it lands. -/
abbrev TX.cell (c : Dev nD) (i : TX) : GSem nD τ sig := Ring.cell (toDev i.1 c) (kRcv i.1 i.2.1 i.2.2)

/-- Two transfers have two places. -/
theorem idx_inj {i j : TX} (h : i.idx = j.idx) : i = j := by
  obtain ⟨d, s, t⟩ := i
  obtain ⟨d', s', t'⟩ := j
  have hs := s.isLt; have ht := t.isLt; have hs' := s'.isLt; have ht' := t'.isLt
  simp only [TX.idx, Ring.idx] at h
  cases d <;> cases d' <;> simp only [cond_true, cond_false] at h
  · have h1 : s = s' := Fin.ext (by omega)
    have h2 : t = t' := Fin.ext (by omega)
    rw [h1, h2]
  · omega
  · omega
  · have h1 : s = s' := Fin.ext (by omega)
    have h2 : t = t' := Fin.ext (by omega)
    rw [h1, h2]

/-- What device `c` still owes when the transfers before place `n` have been started. -/
def owed (c : Dev nD) (n : ℕ) : CellTallies nD τ sig Unit :=
  ∑ i ∈ (Finset.univ : Finset TX).filter (fun i => n ≤ i.idx), tallyAt (i.cell c) () (amt (nar i.2.1.val))

/-- Before its place a transfer is owed, after it not. -/
theorem owed_step (c : Dev nD) (i : TX) :
    owed c i.idx = owed c (i.idx + 1) + tallyAt (i.cell c) () (amt (nar i.2.1.val)) := by
  unfold owed
  rw [show (Finset.univ : Finset TX).filter (fun j => i.idx ≤ j.idx)
      = insert i ((Finset.univ : Finset TX).filter (fun j => i.idx + 1 ≤ j.idx)) from by
    ext j
    simp only [Finset.mem_filter, Finset.mem_univ, true_and, Finset.mem_insert]
    constructor
    · intro h
      by_cases he : j.idx = i.idx
      · exact .inl (idx_inj he)
      · right; omega
    · rintro (rfl | h)
      · exact Nat.le_refl _
      · omega]
  rw [Finset.sum_insert (by simp), add_comm]

/-- A device makes 56 transfers. -/
theorem idx_lt (i : TX) : i.idx < 56 := by
  obtain ⟨d, s, t⟩ := i
  have hs := s.isLt; have ht := t.isLt
  simp only [TX.idx, Ring.idx]
  cases d <;> simp only [cond_true, cond_false] <;> omega

/-- After all transfers nothing is owed. -/
theorem owed_end (c : Dev nD) : owed c 56 = 0 := by
  unfold owed
  rw [Finset.filter_eq_empty_iff.mpr fun i _ => by have := idx_lt i; omega, Finset.sum_empty]

/-- What is owed is owed to the cell of a later transfer. -/
theorem owed_pos {c : Dev nD} {n : ℕ} {g : GSem nD τ sig} {u : Unit} (h : 0 < owed c n g u) :
    ∃ i : TX, n ≤ i.idx ∧ g = i.cell c := by
  unfold owed at h
  by_contra hn
  refine absurd h (Nat.not_lt.mpr (Nat.le_of_eq ?_))
  rw [Finset.sum_apply, Finsupp.finset_sum_apply]
  refine Finset.sum_eq_zero fun i hi => ?_
  rw [tallyAt_apply, if_neg]
  rintro ⟨rfl, -⟩
  exact hn ⟨i, (Finset.mem_filter.mp hi).2, rfl⟩

/-- A device may wait on a cell of its own that lies below everything it still owes. -/
theorem mayWait_cell (c : Dev nD) (sm : SemLoc sig) (n : ℕ) (h : lvK (kind sm) < 2 + n) :
    (levAts L lv : sProp 𝕄) ⊢ MayWait (c : Thread nD τ) sm () (owed c n) :=
  MayOwe.of_cut (L := L) (lev := lv) (1 + n)
    (fun p hp => by rw [Finset.mem_singleton.mp hp, L_tc]; exact Finset.mem_singleton_self _)
    (fun g u hg => by obtain ⟨i, -, rfl⟩ := owed_pos hg; rw [L_tc]; exact Finset.mem_singleton_self _)
    (fun p hp => by rw [Finset.mem_singleton.mp hp]; show lvK (kind sm) ≤ _; omega)
    (fun g u hg => by
      obtain ⟨i, hi, rfl⟩ := owed_pos hg
      rw [lv_cell]
      show 1 + n < 2 + i.idx
      omega)

end Cert.KernelIdeal.Ring
-- ==== Proof.Slots.lean ====
/- Reading and writing one slot of a buffer. -/
module

public import proofs.«01_k».proof.Proof.Cells
public import Idealize.ShloMosaic.Lib.Writes
public import Idealize.ShloMosaic.Lib.ViewIndex

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No loop of the body needs a variant. -/
abbrev 𝒱₀ : Variants := Variants.none

/-- The body's weakest precondition on device `c`. -/
abbrev wpc {α : Type} (c : Dev nD) (p : TProg F α) (Q : α → sProp 𝕄) : sProp 𝕄 :=
  wp frame (wpE (defs₀ (F := F)) 𝒱₀ (c : Thread nD τ) none) Set.univ p Q

/-- Run a part of a program whose triple is known, then the rest. -/
theorem seq {α β : Type} {c : Dev nD} {p : TProg F α} {k : α → TProg F β} {P : sProp 𝕄} {R : α → sProp 𝕄} {Q : β → sProp 𝕄}
    (h : P ⊢ wpc c p R) : P ⊢ iprop((∀ v, R v -∗ wpc c (k v) Q) -∗ wpc c (p >>= k) Q) := by
  rw [wpc, wp_bind]
  exact h.trans (wp_wand frame _ Set.univ)

/-- Run a program whose triple is known. -/
theorem last {α : Type} {c : Dev nD} {p : TProg F α} {P : sProp 𝕄} {R Q : α → sProp 𝕄}
    (h : P ⊢ wpc c p R) : P ⊢ iprop((∀ v, R v -∗ Q v) -∗ wpc c p Q) :=
  h.trans (wp_wand frame _ Set.univ)

/-! ## The slots' elements -/

/-- A reshaped slice reads back a tile stored through the slice. -/
theorem read_store {sp : Space} {s s' : Shape} {e : EltTy} (m : Memref sig .tc sp s e) (r : Rect s) (h : s'.numel = r.shape.numel)
    (f : (m.access r).ty.Contents (Elt F)) (w : Vec F s' e) (hc : s'.ShapeCasts r.shape) :
    ((m.access r).reshape s' h).read (Elt F) ((m.access r).write (Elt F) f (shapeCast r.shape w hc) Finset.univ) = w := by
  funext j
  have h1 := congrFun (View.read_write_univ (Val := Elt F) (v := m.access r) f (shapeCast r.shape w hc)) (Shape.reshapeEquiv h j)
  refine h1.trans ?_
  show w (Shape.reshapeEquiv _ (Shape.reshapeEquiv _ j)) = w j
  rw [Shape.reshapeEquiv_reshapeEquiv, Shape.reshapeEquiv_self]

/-- A tile's rectangle in a send buffer is the send slot. -/
theorem sendSet (d b : Bool) (t : Fin 4) : ((bufs.send d b).access (sendRect t)).set = (bufs.sendSlot d b t).view.set :=
  (View.set_reshape ((bufs.send d b).access (sendRect t)) _).symm

/-- A tile's rectangle in a receive buffer is the receive slot. -/
theorem recvSet (d : Bool) (s : Fin 7) (t : Fin 4) :
    ((bufs.recv d (nar s.val)).access (recvRect (nar s.val) (slotOf s) t)).set = (bufs.recvSlot d s t).view.set :=
  (View.set_reshape ((bufs.recv d (nar s.val)).access (recvRect (nar s.val) (slotOf s) t)) _).symm

/-- What a load of a receive slot returns is what the slot reads. -/
theorem recvRead (d : Bool) (s : Fin 7) (t : Fin 4)
    (f : ((bufs.recv d (nar s.val)).access (recvRect (nar s.val) (slotOf s) t)).ty.Contents (Elt F)) :
    shapeCast S128x1024 (((bufs.recv d (nar s.val)).access (recvRect (nar s.val) (slotOf s) t)).read (Elt F) f)
      shapeCasts_S1x1x128x1024_S128x1024 = (bufs.recvSlot d s t).view.read (Elt F) f := rfl

/-- What a send slot reads after a store of a tile. -/
theorem sendRead (d b : Bool) (t : Fin 4) (f : ((bufs.send d b).access (sendRect t)).ty.Contents (Elt F)) (w : Vec F S128x1024 (ety b)) :
    (bufs.sendSlot d b t).view.read (Elt F) (((bufs.send d b).access (sendRect t)).write (Elt F) f
      (shapeCast S1x128x1024 w shapeCasts_S128x1024_S1x128x1024) Finset.univ) = w :=
  read_store (bufs.send d b) (sendRect t) _ f w _

/-! ## Loads and stores at a slot -/

variable {α : Type} (c : Dev nD)

/-- A load of a send slot's tile. -/
theorem load_send (d b : Bool) (t : Fin 4) {Q : α → sProp 𝕄} {hl : (bufs.send d b).view.LoadsAt (sendRect t).toLoadRect}
    {k : ((sendRect t).shape.Idx → Elt F (ety b)) → TProg F α} (u : Vec F S128x1024 (ety b)) :
    owns (c : Thread nD τ) (bufs.sendSlot d b t) fullShare u
      ⊢ iprop((∀ v, owns (c : Thread nD τ) (bufs.sendSlot d b t) fullShare u -∗ wpc c (k v) Q)
        -∗ wpc c (.op (.load (bufs.send d b) (sendRect t).toLoadRect hl) k) Q) := by
  have hl' := fun f : ((bufs.send d b).access (sendRect t)).ty.Contents (Elt F) =>
    wp_load_rect (defs := defs₀ (F := F)) 𝒱₀ (c : Thread nD τ) none (Γ := .empty) Set.univ (Q := Q) (m := bufs.send d b)
      (r := sendRect t) (hl := hl) (k := k) (q := fullShare) (f := f) (le_of_eq (sendSet d b t))
  unfold owns
  iintro ⟨%f, %hf, H⟩ Hk
  iapply (show (View.loc (c : Thread nD τ) (bufs.sendSlot d b t).view ↦[(bufs.sendSlot d b t).view.set]{fullShare} f) ⊢ _ from hl' f) $$ H
  iintro H
  iapply Hk
  iexists f
  isplitr
  · ipureintro; exact hf
  · iexact H

/-- A store of a tile into a send slot. -/
theorem store_send (d b : Bool) (t : Fin 4) {Q : α → sProp 𝕄} (w : Vec F S128x1024 (ety b))
    {hx : ((bufs.send d b).access (sendRect t)).Stores Finset.univ} {hm : (Finset.univ : Finset (sendRect t).shape.Idx) = Finset.univ ∨ ∀ a, (sendRect t).stride a = 1}
    {k : PUnit → TProg F α} (u : Vec F S128x1024 (ety b)) :
    owns (c : Thread nD τ) (bufs.sendSlot d b t) fullShare u
      ⊢ iprop((owns (c : Thread nD τ) (bufs.sendSlot d b t) fullShare w -∗ wpc c (k ⟨⟩) Q)
        -∗ wpc c (.op (.store (bufs.send d b) (sendRect t) (shapeCast S1x128x1024 w shapeCasts_S128x1024_S1x128x1024) Finset.univ hx hm) k) Q) := by
  have hs := fun f : ((bufs.send d b).access (sendRect t)).ty.Contents (Elt F) =>
    wp_store (defs := defs₀ (F := F)) 𝒱₀ (c : Thread nD τ) none (Γ := .empty) Set.univ (Q := Q) (m := bufs.send d b)
      (r := sendRect t) (hx := hx) (hm := hm) (k := k) (f := f)
      (w := shapeCast S1x128x1024 w shapeCasts_S128x1024_S1x128x1024) (le_of_eq (sendSet d b t))
  unfold owns
  iintro ⟨%f, %hf, H⟩ Hk
  iapply (show (View.loc (c : Thread nD τ) (bufs.sendSlot d b t).view ↦[(bufs.sendSlot d b t).view.set]{fullShare} f) ⊢ _ from hs f) $$ H
  iintro H
  iapply Hk
  iexists _
  isplitr
  · ipureintro; exact sendRead d b t f w
  · iexact H

/-- A load of a receive slot's tile. -/
theorem load_recv (d : Bool) (s : Fin 7) (t : Fin 4) {Q : α → sProp 𝕄}
    {hl : (bufs.recv d (nar s.val)).view.LoadsAt (recvRect (nar s.val) (slotOf s) t).toLoadRect}
    {k : ((recvRect (nar s.val) (slotOf s) t).shape.Idx → Elt F (ety (nar s.val))) → TProg F α} (u : Vec F S128x1024 (ety (nar s.val))) :
    owns (c : Thread nD τ) (bufs.recvSlot d s t) fullShare u
      ⊢ iprop((∀ v, ⌜shapeCast S128x1024 v shapeCasts_S1x1x128x1024_S128x1024 = u⌝ -∗
          owns (c : Thread nD τ) (bufs.recvSlot d s t) fullShare u -∗ wpc c (k v) Q)
        -∗ wpc c (.op (.load (bufs.recv d (nar s.val)) (recvRect (nar s.val) (slotOf s) t).toLoadRect hl) k) Q) := by
  have hl' := fun f : ((bufs.recv d (nar s.val)).access (recvRect (nar s.val) (slotOf s) t)).ty.Contents (Elt F) =>
    wp_load_rect (defs := defs₀ (F := F)) 𝒱₀ (c : Thread nD τ) none (Γ := .empty) Set.univ (Q := Q) (m := bufs.recv d (nar s.val))
      (r := recvRect (nar s.val) (slotOf s) t) (hl := hl) (k := k) (q := fullShare) (f := f) (le_of_eq (recvSet d s t))
  unfold owns
  iintro ⟨%f, %hf, H⟩ Hk
  iapply (show (View.loc (c : Thread nD τ) (bufs.recvSlot d s t).view ↦[(bufs.recvSlot d s t).view.set]{fullShare} f) ⊢ _ from hl' f) $$ H
  iintro H
  iapply Hk $$ %_ %((recvRead d s t f).trans hf)
  iexists f
  isplitr
  · ipureintro; exact hf
  · iexact H

end Cert.KernelIdeal.Ring
-- ==== Proof.Lane.lean ====
/- What is known of the schedule, and one tile's resources in one direction. -/
module

public import proofs.«01_k».proof.Proof.Slots

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × CK → ℕ)

/-- Every cell's invariant. -/
def invs : sProp 𝕄 := bigSep Finset.univ fun ck : Dev nD × CK => cellInv ER (Rd I) (K ck) (cell ck.1 ck.2)

/-- What is known throughout: the cells' invariants and the levels. -/
def Known : sProp 𝕄 := iprop(invs I K ∗ levAts L lv)

/-- The semaphores' invariants may be used again and again. -/
instance invs_persistent : Persistent (invs I K) := by unfold invs; infer_instance
/-- What is known may be used again and again. -/
instance known_persistent : Persistent (Known I K) := by unfold Known; infer_instance

/-- A semaphore's invariant is known. -/
theorem known_inv (c : Dev nD) (k : CK) : Known I K ⊢ cellInv ER (Rd I) (K (c, k)) (cell c k) := by
  have h : invs I K ⊢ cellInv ER (Rd I) (K (c, k)) (cell c k) := bigSep_elim (Finset.mem_univ (c, k))
  unfold Known
  iintro ⟨H, -⟩
  iapply h $$ H

/-- The levels are known. -/
theorem known_lev : Known I K ⊢ (levAts L lv : sProp 𝕄) := by
  unfold Known
  iintro ⟨-, H⟩
  iexact H

/-- What device `c` owes when the transfers before place `n` are started, whatever it waited for. -/
def Owe (c : Dev nD) (n : ℕ) : sProp 𝕄 := iprop(∃ W, owes (c : Thread nD τ) (owed c n) W)

/-- A send cell at rest at a round, with both send buffers' tile. -/
def Free (c : Dev nD) (d : Bool) (t : Fin 4) (r : ℕ) : sProp 𝕄 :=
  iprop(atPos ER (cell c (kSnd d t)) r ∅ 0 ∗ reached ER (cell c (kSnd d t)) r ∗ sendAny c d true t ∗ sendAny c d false t)

/-- A send cell whose transfer is under way, with the tile of the other width. -/
def Fly (c : Dev nD) (d : Bool) (t : Fin 4) (r : ℕ) : sProp 𝕄 :=
  iprop(atPos ER (cell c (kSnd d t)) r ∅ 0 ∗ cred (tallyAt (cell c (kSnd d t)) () (amt (nar r))) ∗ sendAny c d (!nar r) t)

/-- What device `c` needs for a transfer to its neighbour. -/
def Duty (c : Dev nD) (d : Bool) (t : Fin 4) (s : Fin 7) : sProp 𝕄 :=
  iprop(dutyTok ER (cell (toDev d c) (kRcv d s t)) 0 true ∗ dutyTok ER (cell c (kSnd d t)) s.val true
    ∗ slotAny (toDev d c) d s t ∗ reached ER (cell (toDev d c) (kRcv d s t)) 0)

/-- The transfers of a lane still to be started. -/
def Fut (c : Dev nD) (d : Bool) (t : Fin 4) (n : ℕ) : sProp 𝕄 :=
  bigSep (Finset.univ.filter fun s : Fin 7 => n ≤ s.val) (Duty c d t)

/-- The right to wait for a receive slot. -/
def Await (c : Dev nD) (d : Bool) (t : Fin 4) (s : Fin 7) : sProp 𝕄 :=
  iprop(atPos ER (cell c (kRcv d s t)) 0 ∅ 0 ∗ cred (tallyAt (cell c (kRcv d s t)) () (amt (nar s.val))))

/-- The slots of a lane still to be received. -/
def Rcv (c : Dev nD) (d : Bool) (t : Fin 4) (n : ℕ) : sProp 𝕄 :=
  bigSep (Finset.univ.filter fun s : Fin 7 => n ≤ s.val) (Await c d t)

/-- A slot that was received and read. -/
def Got (c : Dev nD) (d : Bool) (t : Fin 4) (s : Fin 7) : sProp 𝕄 :=
  iprop(atPos ER (cell c (kRcv d s t)) 1 ∅ 0 ∗ slotAny c d s t)

/-- The slots of a lane already received. -/
def Gots (c : Dev nD) (d : Bool) (t : Fin 4) (n : ℕ) : sProp 𝕄 :=
  bigSep (Finset.univ.filter fun s : Fin 7 => s.val < n) (Got c d t)

/-- The first of what is left, taken off. -/
theorem filter_ge (Φ : Fin 7 → sProp 𝕄) (s : Fin 7) :
    bigSep (Finset.univ.filter fun s' : Fin 7 => s.val ≤ s'.val) Φ
      = iprop(Φ s ∗ bigSep (Finset.univ.filter fun s' : Fin 7 => s.val + 1 ≤ s'.val) Φ) := by
  rw [show (Finset.univ.filter fun s' : Fin 7 => s.val ≤ s'.val) = insert s (Finset.univ.filter fun s' : Fin 7 => s.val + 1 ≤ s'.val) from by
    revert s; decide]
  exact bigSep_insert (by simp)

/-- One more put to what is done. -/
theorem filter_lt (Φ : Fin 7 → sProp 𝕄) (s : Fin 7) :
    bigSep (Finset.univ.filter fun s' : Fin 7 => s'.val < s.val + 1) Φ
      = iprop(Φ s ∗ bigSep (Finset.univ.filter fun s' : Fin 7 => s'.val < s.val) Φ) := by
  rw [show (Finset.univ.filter fun s' : Fin 7 => s'.val < s.val + 1) = insert s (Finset.univ.filter fun s' : Fin 7 => s'.val < s.val) from by
    revert s; decide]
  exact bigSep_insert (by simp)

/-- Take the send slot of a width out of both. -/
theorem sends_pick (c : Dev nD) (d b : Bool) (t : Fin 4) :
    iprop(sendAny c d true t ∗ sendAny c d false t : sProp 𝕄) = iprop(sendAny c d b t ∗ sendAny c d (!b) t) := by
  cases b
  · exact equiv_iff.mp ⟨BI.sep_comm, BI.sep_comm⟩
  · rfl

/-- A send semaphore has one duty in each of its rounds. -/
theorem duty_snd (d : Bool) (t : Fin 4) (s : Fin 7) : dutiesK (kSnd d t) s.val = {true} := if_pos s.isLt
/-- A receive semaphore has one duty. -/
theorem duty_rcv (d : Bool) (t : Fin 4) (s : Fin 7) : dutiesK (kRcv d s t) 0 = {true} := rfl

/-- A device reaches its neighbour. -/
theorem routes_dev (d : Bool) (c : Dev nD) : τ.routes (c : Thread nD τ) (toDev d c : Thread nD τ) = true := by
  routes

/-- What a started transfer gives back on the sender's side. -/
theorem pay_snd (c : Dev nD) (d : Bool) (s : Fin 7) (t : Fin 4) (f : (bufs.sendSlot d (nar s.val) t).view.ty.Contents (Elt F)) :
    (View.loc (c : Thread nD τ) (bufs.sendSlot d (nar s.val) t).view ↦[(bufs.sendSlot d (nar s.val) t).view.set]{fullShare} f)
      ⊢ (Rd I).payload (cell c (kSnd d t)) s.val true := by
  rw [Rd_payload]
  show _ ⊢ sendAny c d (nar s.val) t
  unfold sendAny
  iintro H
  iexists _
  iapply (owns_intro (c : Thread nD τ) (bufs.sendSlot d (nar s.val) t) fullShare f) $$ H

/-- What a landed transfer gives the receiver. -/
theorem pay_rcv (c : Dev nD) (d : Bool) (s : Fin 7) (t : Fin 4) (f : (bufs.sendSlot d (nar s.val) t).view.ty.Contents (Elt F))
    (g : (bufs.recvSlot d s t).view.ty.Contents (Elt F)) (hf : (bufs.sendSlot d (nar s.val) t).view.read (Elt F) f = sent I d s.val c t) :
    (View.loc (toDev d c : Thread nD τ) (bufs.recvSlot d s t).view ↦[(bufs.recvSlot d s t).view.set]{fullShare}
        ((bufs.recvSlot d s t).view.write (Elt F) g ((bufs.sendSlot d (nar s.val) t).view.read (Elt F) f) Finset.univ))
      ⊢ (Rd I).payload (cell (toDev d c) (kRcv d s t)) 0 true := by
  rw [Rd_payload]
  show _ ⊢ rcvPay I (toDev d c) d s t
  unfold rcvPay src
  rw [not_toDev]
  have e : sent I d s.val c t = (bufs.recvSlot d s t).view.read (Elt F) ((bufs.recvSlot d s t).view.write (Elt F) g
      ((bufs.sendSlot d (nar s.val) t).view.read (Elt F) f) Finset.univ) := by
    rw [View.read_write_univ, hf]
  rw [e]
  exact owns_intro _ _ _ _

/-- The transfer of a tile to the neighbour's slot. -/
theorem send_tile {α : Type} (c : Dev nD) (d : Bool) (s : Fin 7) (t : Fin 4) (W : Waits sig Unit) {Q : α → sProp 𝕄}
    {h1 : (bufs.sendSlot d (nar s.val) t).view.WordExact} {h2 : (bufs.recvSlot d s t).view.WordExact} {h4}
    {h3 : DmaTarget.Typed .vmem (.dma (bufs.recvSem d s t))
      (.remote (toDev d c : Thread nD τ) (bufs.recvSlot d s t) (.dma (bufs.sendSem d t)) h4)}
    {k : PUnit → TProg F α} :
    iprop(cellInv ER (Rd I) (K (c, kSnd d t)) (cell c (kSnd d t)) ∗ cellInv ER (Rd I) (K (toDev d c, kRcv d s t)) (cell (toDev d c) (kRcv d s t))
        ∗ owns (c : Thread nD τ) (bufs.sendSlot d (nar s.val) t) fullShare (sent I d s.val c t)
        ∗ slotAny (toDev d c) d s t ∗ owes (c : Thread nD τ) (owed c (idx d s t)) W
        ∗ dutyTok ER (cell c (kSnd d t)) s.val true ∗ reached ER (cell c (kSnd d t)) s.val
        ∗ dutyTok ER (cell (toDev d c) (kRcv d s t)) 0 true ∗ reached ER (cell (toDev d c) (kRcv d s t)) 0)
      ⊢ iprop(((cred (tallyAt (cell c (kSnd d t)) () (amt (nar s.val))) ∗ owes (c : Thread nD τ) (owed c (idx d s t + 1)) W)
            -∗ wpc c (k ⟨⟩) Q)
          -∗ wpc c (.op (.enqueueDma (bufs.sendSlot d (nar s.val) t)
            (.remote (toDev d c : Thread nD τ) (bufs.recvSlot d s t) (.dma (bufs.sendSem d t)) h4) (.dma (bufs.recvSem d s t)) h1 h2 h3) k) Q) := by
  have hs := fun (f : (bufs.sendSlot d (nar s.val) t).view.ty.Contents (Elt F)) (g : (bufs.recvSlot d s t).view.ty.Contents (Elt F))
      (hf : (bufs.sendSlot d (nar s.val) t).view.read (Elt F) f = sent I d s.val c t) =>
    wp_send_pointsTo (defs := defs₀ (F := F)) (Q := Q) (k := k) (Γ := .empty) 𝒱₀ ER (Rd I) (c : Thread nD τ) none (Es := Set.univ)
      (κ₁ := K (c, kSnd d t)) (κ₂ := K (toDev d c, kRcv d s t)) (W := W) (q := fullShare) (fs := f) (fd := g)
      (c' := (toDev d c : Thread nD τ)) (src := bufs.sendSlot d (nar s.val) t) (dst := bufs.recvSlot d s t)
      (sS := .dma (bufs.sendSem d t)) (sem := .dma (bufs.recvSem d s t)) (hsrc := h1) (hdst := h2) (hsc := h4) (hsem := h3)
      (r₁ := s.val) (d₁ := true) (r₂ := 0) (d₂ := true)
      (by have := Rd_duties I c (kSnd d t) s.val; rw [duty_snd] at this; exact this.symm ▸ Finset.mem_singleton_self _)
      (by have := Rd_duties I (toDev d c) (kRcv d s t) 0; rw [duty_rcv] at this; exact this.symm ▸ Finset.mem_singleton_self _)
      () () (amt (nar s.val)) (amt_recv d s t) (Rd_amount I c (kSnd d t) s.val true) (Rd_amount I (toDev d c) (kRcv d s t) 0 true)
      (owed c (idx d s t + 1)) (owed_step c (d, s, t)) (pay_snd I c d s t f) (pay_rcv I c d s t f g hf) (routes_dev d c)
  unfold slotAny owns
  iintro ⟨#Hi, #Hi', ⟨%f, %hf, HB⟩, ⟨%u, %g, %hg, Hd⟩, HO, Htk', #Hr, Htk, #Hr'⟩
  iapply (hs f g hf)
  isplitr; · iexact Hi
  isplitr; · iexact Hi'
  isplitl [HB]; · iexact HB
  isplitl [Hd]; · iexact Hd
  isplitl [HO]; · iexact HO
  isplitl [Htk']; · iexact Htk'
  isplitr; · iexact Hr
  isplitl [Htk]; · iexact Htk
  iexact Hr'

/-- A tile is put into its send buffer and its transfer started. -/
theorem push_spec (c : Dev nD) (d : Bool) (s : Fin 7) (t : Fin 4) (v : FVec F S128x1024 .bf16) (hv : v = acc I d s.val c t) :
    iprop(Known I K ∗ Free c d t s.val ∗ Fut c d t s.val ∗ Owe c (idx d s t))
      ⊢ wpc c (bufs.push d c s t v) (fun _ => iprop(Fly c d t s.val ∗ Fut c d t (s.val + 1) ∗ Owe c (idx d s t + 1))) := by
  subst hv
  unfold Free Fut Owe
  rw [filter_ge, sends_pick c d (nar s.val) t]
  unfold Duty
  iintro ⟨#HC, ⟨Hat, #Hr, HB, HB'⟩, ⟨⟨Htk, Htk', Hd, #Hr'⟩, HF⟩, %W, HO⟩
  unfold Bufs.push
  simp only [Prog.lift, Prog.bind_op, Prog.bind_ret]
  unfold sendAny
  icases HB with ⟨%u, HB⟩
  iapply (load_send c d (nar s.val) t u) $$ HB
  iintro %_ HB
  iapply (store_send c d (nar s.val) t (sent I d s.val c t) u) $$ HB
  iintro HB
  iapply (send_tile I K c d s t W) $$ [HB Hd HO Htk Htk']
  · isplitr
    · iapply (known_inv I K c (kSnd d t)) $$ HC
    isplitr
    · iapply (known_inv I K (toDev d c) (kRcv d s t)) $$ HC
    isplitl [HB]; · iexact HB
    isplitl [Hd]; · iexact Hd
    isplitl [HO]; · iexact HO
    isplitl [Htk']; · iexact Htk'
    isplitr; · iexact Hr
    isplitl [Htk]; · iexact Htk
    iexact Hr'
  iintro ⟨Hcr, HO⟩
  rw [wpc, wp_ret]
  imodintro
  unfold Fly sendAny
  isplitl [Hat Hcr HB']
  · isplitl [Hat]; · iexact Hat
    isplitl [Hcr]; · iexact Hcr
    iexact HB'
  isplitl [HF]; · iexact HF
  iexists W
  iexact HO

/-- A wait for a whole round of one duty on a cell below everything still owed. -/
theorem wait_cell {α : Type} (c : Dev nD) (k : CK) (r n : ℕ) (hd : dutiesK k r = {true}) (hl : lvK (some k) < 2 + n)
    {w : TpuEff nD τ sig (Elt F) Λ₀ .tc PUnit} {k' : ℕ} (hk' : k' = amountK k r)
    (hw : ∀ K : PUnit → sProp 𝕄, wpE' (defs₀ (F := F)) 𝒱₀ (c : Thread nD τ) none .empty Set.univ w K
      = waitSpec (c : Thread nD τ) Set.univ (semOf k) k' K)
    {kk : PUnit → TProg F α} {Q : α → sProp 𝕄} :
    iprop(Known I K ∗ cred (tallyAt (cell c k) () (amountK k r)) ∗ Owe c n ∗ atPos ER (cell c k) r ∅ 0)
      ⊢ iprop(((Owe c n ∗ atPos ER (cell c k) (r + 1) ∅ 0 ∗ reached ER (cell c k) (r + 1) ∗ payK I c k r true) -∗ wpc c (kk ⟨⟩) Q)
          -∗ wpc c (.op w kk) Q) := by
  subst hk'
  unfold Owe
  iintro ⟨#HC, Hcr, ⟨%W, HO⟩, Hat⟩ Hk
  iapply (Rounds.wp_wait_rest_token 𝒱₀ ER (Rd I) (c : Thread nD τ) none (κ := K (c, k)) hw (Set.mem_univ _) ()
    (O := owed c n) (W := W) (R := r) (m := 0) (T := ∅) (by rw [Nat.zero_add]; exact (expect_one I c k r hd).symm)) $$ [Hcr HO Hat]
  · isplitr
    · iapply (known_inv I K c k) $$ HC
    isplitl [Hcr]; · iexact Hcr
    isplitl [HO]; · iexact HO
    isplitr
    · iapply (mayWait_cell c (semOf k) n (by rw [kind_semOf]; exact hl))
      iapply (known_lev I K) $$ HC
    iexact Hat
  iintro ⟨HO, Hat, Hr, Hp⟩
  iapply Hk
  isplitl [HO]
  · iexists _; iexact HO
  isplitl [Hat]; · iexact Hat
  isplitl [Hr]; · iexact Hr
  ihave Hp := (Entails.of_eq (rest_one I c k r hd)) $$ Hp
  iexact Hp

/-- The wait until a send buffer's tile is free again. -/
theorem waitSent_spec (c : Dev nD) (d : Bool) (s : Fin 7) (t : Fin 4) (n : ℕ) :
    iprop(Known I K ∗ Fly c d t s.val ∗ Owe c n)
      ⊢ wpc c (bufs.waitSent d s t) (fun _ => iprop(Free c d t (s.val + 1) ∗ Owe c n)) := by
  unfold Fly
  iintro ⟨#HC, ⟨Hat, Hcr, HB'⟩, HO⟩
  unfold Bufs.waitSent
  simp only [Prog.lift]
  iapply (wait_cell I K c (kSnd d t) s.val n (duty_snd d t s) (by show 0 < _; omega) (amt_send d (nar s.val) t)
    (wpE_waitDma2_eq 𝒱₀ (c : Thread nD τ) none Set.univ)) $$ [Hat Hcr HO]
  · isplitr; · iexact HC
    isplitl [Hcr]; · iexact Hcr
    isplitl [HO]; · iexact HO
    iexact Hat
  iintro ⟨HO, Hat, Hr, Hp⟩
  rw [wpc, wp_ret]
  imodintro
  isplitr [HO]
  · unfold Free
    isplitl [Hat]; · iexact Hat
    isplitl [Hr]; · iexact Hr
    rw [sends_pick c d (nar s.val) t]
    isplitl [Hp]
    · iapply (Entails.of_eq (show payK I c (kSnd d t) s.val true = sendAny c d (nar s.val) t from rfl)) $$ Hp
    iexact HB'
  iexact HO

/-- The wait for a slot, and the load of what landed there. -/
theorem pull_spec (c : Dev nD) (d : Bool) (s : Fin 7) (t : Fin 4) (n : ℕ) (hn : idx d s t < n) :
    iprop(Known I K ∗ Rcv c d t s.val ∗ Gots c d t s.val ∗ Owe c n)
      ⊢ wpc c (bufs.pull d s t) (fun v => iprop(⌜v = sent I d s.val (src d c) t⌝ ∗ Rcv c d t (s.val + 1) ∗ Gots c d t (s.val + 1) ∗ Owe c n)) := by
  unfold Rcv Gots
  rw [filter_ge, filter_lt]
  iintro ⟨#HC, ⟨HA, HR⟩, HG, HO⟩
  unfold Await
  icases HA with ⟨Hat, Hcr⟩
  unfold Bufs.pull
  simp only [Prog.lift, Prog.bind_op, Prog.bind_ret]
  iapply (wait_cell I K c (kRcv d s t) 0 n (duty_rcv d t s) (by show 2 + idx d s t < _; omega) (amt_recv d s t)
    (wpE_waitDma2_eq 𝒱₀ (c : Thread nD τ) none Set.univ)) $$ [Hat Hcr HO]
  · isplitr; · iexact HC
    isplitl [Hcr]; · iexact Hcr
    isplitl [HO]; · iexact HO
    iexact Hat
  iintro ⟨HO, Hat, Hr, Hp⟩
  ihave Hp := (Entails.of_eq (show payK I c (kRcv d s t) 0 true = owns (c : Thread nD τ) (bufs.recvSlot d s t) fullShare (sent I d s.val (src d c) t) from rfl)) $$ Hp
  iapply (load_recv c d s t (sent I d s.val (src d c) t)) $$ Hp
  iintro %v %hv Hp
  simp only [Prog.pure_eq_ret]
  rw [wpc, wp_ret]
  imodintro
  isplitr; · ipureintro; exact hv
  isplitl [HR]; · iexact HR
  isplitr [HO]
  · isplitl [Hat Hp]
    · unfold Got slotAny
      isplitl [Hat]; · iexact Hat
      iexists _; iexact Hp
    · iexact HG
  iexact HO

end Cert.KernelIdeal.Ring
-- ==== Proof.Steps.lean ====
/- One tile's step in one direction: the first, a middle one and the last. -/
module

public import proofs.«01_k».proof.Proof.Lane

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × CK → ℕ)

/-! ## The inputs -/

/-- The four staged inputs. -/
def Ins (c : Dev nD) : sProp 𝕄 :=
  iprop((((c : Thread nD τ).loc cc0_stg0_0) ↦{fullShare} (I.X c : (cc0_stg0_0 : Ref sig .tc).ty.Contents (Elt F)))
    ∗ (((c : Thread nD τ).loc cc0_stg1_0) ↦{fullShare} (I.W c : (cc0_stg1_0 : Ref sig .tc).ty.Contents (Elt F)))
    ∗ (((c : Thread nD τ).loc cc0_stg2_0) ↦{fullShare} (I.SX c : (cc0_stg2_0 : Ref sig .tc).ty.Contents (Elt F)))
    ∗ (((c : Thread nD τ).loc cc0_stg3_0) ↦{fullShare} (I.SW c : (cc0_stg3_0 : Ref sig .tc).ty.Contents (Elt F))))

/-- A load of `x`. -/
theorem load_x (c : Dev nD) (r : Rect S4096x512) {hl : bufs.x.view.LoadsAt r.toLoadRect} :
    Ins I c ⊢ wpc c (Prog.lift (.load bufs.x r.toLoadRect hl))
      (fun v => iprop(⌜v = bufs.x.view.readAt (Elt F) r.toLoadRect (I.X c)⌝ ∗ Ins I c)) := by
  unfold Ins
  iintro ⟨HX, HW, HS, HT⟩
  simp only [Prog.lift]
  iapply (wp_load 𝒱₀ (c : Thread nD τ) none Set.univ (m := Memref.whole cc0_stg0_0) (Finset.subset_univ _)) $$ HX
  iintro HX
  rw [wp_ret]
  imodintro
  isplitr; · ipureintro; rfl
  isplitl [HX]; · iexact HX
  isplitl [HW]; · iexact HW
  isplitl [HS]; · iexact HS
  iexact HT

/-- A load of a ring's half of `w`. -/
theorem load_w (c : Dev nD) (d : Bool) :
    Ins I c ⊢ wpc c (bufs.loadW d) (fun v => iprop(⌜v = wHalf I d c⌝ ∗ Ins I c)) := by
  unfold Ins
  iintro ⟨HX, HW, HS, HT⟩
  unfold Bufs.loadW
  simp only [Prog.lift]
  iapply (wp_load 𝒱₀ (c : Thread nD τ) none Set.univ (m := Memref.whole cc0_stg1_0) (Finset.subset_univ _)) $$ HW
  iintro HW
  rw [wp_ret]
  imodintro
  isplitr; · ipureintro; rfl
  isplitl [HX]; · iexact HX
  isplitl [HW]; · iexact HW
  isplitl [HS]; · iexact HS
  iexact HT

/-- The load of the first scale. -/
theorem load_sx (c : Dev nD) :
    Ins I c ⊢ wpc c (smemLoad bufs.sx rS numel1_S1 rfl)
      (fun v => iprop(⌜v = bufs.sx.view.readAt (Elt F) rS.toLoadRect (I.SX c) (Shape.Idx.first (numel1_S1.symm ▸ Nat.one_pos))⌝ ∗ Ins I c)) := by
  unfold Ins
  iintro ⟨HX, HW, HS, HT⟩
  unfold smemLoad smemLoadElt
  iapply (wp_load 𝒱₀ (c : Thread nD τ) none Set.univ (m := Memref.whole cc0_stg2_0) (Finset.subset_univ _)) $$ HS
  iintro HS
  rw [wp_ret]
  imodintro
  isplitr; · ipureintro; rfl
  isplitl [HX]; · iexact HX
  isplitl [HW]; · iexact HW
  isplitl [HS]; · iexact HS
  iexact HT

/-- The load of the second scale. -/
theorem load_sw (c : Dev nD) :
    Ins I c ⊢ wpc c (smemLoad bufs.sw rS numel1_S1 rfl)
      (fun v => iprop(⌜v = bufs.sw.view.readAt (Elt F) rS.toLoadRect (I.SW c) (Shape.Idx.first (numel1_S1.symm ▸ Nat.one_pos))⌝ ∗ Ins I c)) := by
  unfold Ins
  iintro ⟨HX, HW, HS, HT⟩
  unfold smemLoad smemLoadElt
  iapply (wp_load 𝒱₀ (c : Thread nD τ) none Set.univ (m := Memref.whole cc0_stg3_0) (Finset.subset_univ _)) $$ HT
  iintro HT
  rw [wp_ret]
  imodintro
  isplitr; · ipureintro; rfl
  isplitl [HX]; · iexact HX
  isplitl [HW]; · iexact HW
  isplitl [HS]; · iexact HS
  iexact HT

/-! ## A lane from one step to the next -/

/-- A lane whose step `s` has been sent. -/
def Run (c : Dev nD) (d : Bool) (t : Fin 4) (s : ℕ) : sProp 𝕄 :=
  iprop(Fly c d t s ∗ Fut c d t (s + 1) ∗ Rcv c d t s ∗ Gots c d t s)

/-- A lane before its first step. -/
def Start (c : Dev nD) (d : Bool) (t : Fin 4) : sProp 𝕄 :=
  iprop(Free c d t 0 ∗ Fut c d t 0 ∗ Rcv c d t 0 ∗ Gots c d t 0)

/-- One tile of the first step. -/
theorem firstTile_spec (c : Dev nD) (d : Bool) (t : Fin 4) :
    iprop((Known I K ∗ Ins I c) ∗ Start c d t ∗ Owe c (idx d 0 t))
      ⊢ wpc c (bufs.firstTile d c t) (fun _ => iprop((Known I K ∗ Ins I c) ∗ Run c d t 0 ∗ Owe c (idx d 0 t + 1))) := by
  unfold Start
  iintro ⟨⟨#HC, HI⟩, ⟨HF, HU, HR, HG⟩, HO⟩
  unfold Bufs.firstTile Bufs.loadX0
  iapply (seq (load_x I c (rX0 d c t))) $$ HI
  iintro %x ⟨%hx, HI⟩
  iapply (seq (load_w I c d)) $$ HI
  iintro %w ⟨%hw, HI⟩
  iapply (last (push_spec I K c d 0 t _ (by rw [hx, hw]; rfl))) $$ [HF HU HO]
  · isplitr; · iexact HC
    isplitl [HF]; · iexact HF
    isplitl [HU]; · iexact HU
    iexact HO
  iintro %_ ⟨HF, HU, HO⟩
  isplitl [HI]
  · isplitr; · iexact HC
    iexact HI
  unfold Run
  isplitr [HO]
  · isplitl [HF]; · iexact HF
    isplitl [HU]; · iexact HU
    isplitl [HR]; · iexact HR
    iexact HG
  iexact HO

/-- One tile of a middle step. -/
theorem midTile_spec (c : Dev nD) (d : Bool) (s : Fin 6) (t : Fin 4) (p : FVec F S512x1024 .bf16) (hp : p = part I d c s) :
    iprop(Known I K ∗ Run c d t s.val ∗ Owe c (idx d s.succ t))
      ⊢ wpc c (bufs.midTile d c s t p) (fun _ => iprop(Known I K ∗ Run c d t (s.val + 1) ∗ Owe c (idx d s.succ t + 1))) := by
  subst hp
  unfold Run
  iintro ⟨#HC, ⟨HF, HU, HR, HG⟩, HO⟩
  unfold Bufs.midTile
  iapply (seq (pull_spec I K c d s.castSucc t (idx d s.succ t) (by
    have h1 : (s.succ).val = s.val + 1 := rfl
    have h2 : (s.castSucc).val = s.val := rfl
    unfold idx; rw [h1, h2]; omega))) $$ [HR HG HO]
  · isplitr; · iexact HC
    isplitl [HR]; · iexact HR
    isplitl [HG]; · iexact HG
    iexact HO
  iintro %v ⟨%hv, HR, HG, HO⟩
  iapply (seq (waitSent_spec I K c d s.castSucc t (idx d s.succ t))) $$ [HF HO]
  · isplitr; · iexact HC
    isplitl [HF]; · iexact HF
    iexact HO
  iintro %_ ⟨HF, HO⟩
  iapply (last (push_spec I K c d s.succ t _ (by rw [hv]; exact (acc_succ I d s c t).symm))) $$ [HF HU HO]
  · isplitr; · iexact HC
    isplitl [HF]; · iexact HF
    isplitl [HU]; · iexact HU
    iexact HO
  iintro %_ ⟨HF, HU, HO⟩
  isplitr; · iexact HC
  isplitr [HO]
  · isplitl [HF]; · iexact HF
    isplitl [HU]; · iexact HU
    isplitl [HR]; · iexact HR
    iexact HG
  iexact HO

/-! ## Eight lanes at once -/

/-- Something held for every lane, in the order the program goes through them. -/
def All8 (Φ : Bool → Fin 4 → sProp 𝕄) : sProp 𝕄 :=
  iprop(Φ true 0 ∗ Φ false 0 ∗ Φ true 1 ∗ Φ false 1 ∗ Φ true 2 ∗ Φ false 2 ∗ Φ true 3 ∗ Φ false 3)

/-- A part run for every lane in order, each moving a count on by one. -/
theorem eight (c : Dev nD) (O : ℕ → sProp 𝕄) (n : ℕ) (f : Bool → Fin 4 → TProg F PUnit) (R : sProp 𝕄) (A B : Bool → Fin 4 → sProp 𝕄)
    (h : ∀ d t m, m = n + (2 * t.val + (bif d then 0 else 1)) → iprop(R ∗ A d t ∗ O m) ⊢ wpc c (f d t) (fun _ => iprop(R ∗ B d t ∗ O (m + 1)))) :
    iprop(R ∗ All8 A ∗ O n) ⊢ wpc c (do
      f true 0
      f false 0
      f true 1
      f false 1
      f true 2
      f false 2
      f true 3
      f false 3) (fun _ => iprop(R ∗ All8 B ∗ O (n + 8))) := by
  unfold All8
  iintro ⟨HR, ⟨A0, A1, A2, A3, A4, A5, A6, A7⟩, HO⟩
  iapply (seq (h true 0 n rfl)) $$ [HR A0 HO]
  · isplitl [HR]; · iexact HR
    isplitl [A0]; · iexact A0
    iexact HO
  iintro %_ ⟨HR, B0, HO⟩
  iapply (seq (h false 0 (n + 1) rfl)) $$ [HR A1 HO]
  · isplitl [HR]; · iexact HR
    isplitl [A1]; · iexact A1
    iexact HO
  iintro %_ ⟨HR, B1, HO⟩
  iapply (seq (h true 1 (n + 1 + 1) rfl)) $$ [HR A2 HO]
  · isplitl [HR]; · iexact HR
    isplitl [A2]; · iexact A2
    iexact HO
  iintro %_ ⟨HR, B2, HO⟩
  iapply (seq (h false 1 (n + 1 + 1 + 1) rfl)) $$ [HR A3 HO]
  · isplitl [HR]; · iexact HR
    isplitl [A3]; · iexact A3
    iexact HO
  iintro %_ ⟨HR, B3, HO⟩
  iapply (seq (h true 2 (n + 1 + 1 + 1 + 1) rfl)) $$ [HR A4 HO]
  · isplitl [HR]; · iexact HR
    isplitl [A4]; · iexact A4
    iexact HO
  iintro %_ ⟨HR, B4, HO⟩
  iapply (seq (h false 2 (n + 1 + 1 + 1 + 1 + 1) rfl)) $$ [HR A5 HO]
  · isplitl [HR]; · iexact HR
    isplitl [A5]; · iexact A5
    iexact HO
  iintro %_ ⟨HR, B5, HO⟩
  iapply (seq (h true 3 (n + 1 + 1 + 1 + 1 + 1 + 1) rfl)) $$ [HR A6 HO]
  · isplitl [HR]; · iexact HR
    isplitl [A6]; · iexact A6
    iexact HO
  iintro %_ ⟨HR, B6, HO⟩
  iapply (last (h false 3 (n + 1 + 1 + 1 + 1 + 1 + 1 + 1) rfl)) $$ [HR A7 HO]
  · isplitl [HR]; · iexact HR
    isplitl [A7]; · iexact A7
    iexact HO
  iintro %_ ⟨HR, B7, HO⟩
  isplitl [HR]; · iexact HR
  isplitr [HO]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iexact HO

/-- The first step. -/
theorem firstStep_spec (c : Dev nD) :
    iprop((Known I K ∗ Ins I c) ∗ All8 (Start c) ∗ Owe c 0)
      ⊢ wpc c (bufs.firstStep c) (fun _ => iprop((Known I K ∗ Ins I c) ∗ All8 (fun d t => Run c d t 0) ∗ Owe c 8)) :=
  eight c (Owe c) 0 (fun d t => bufs.firstTile d c t) iprop(Known I K ∗ Ins I c) (Start c) (fun d t => Run c d t 0) fun d t m hm => by
    have e : m = idx d 0 t := by subst hm; unfold idx; simp only [Fin.val_zero]; omega
    subst e
    exact firstTile_spec I K c d t

/-- A middle step. -/
theorem midStep_spec (c : Dev nD) (s : Fin 6) :
    iprop((Known I K ∗ Ins I c) ∗ All8 (fun d t => Run c d t s.val) ∗ Owe c (8 * s.val + 8))
      ⊢ wpc c (bufs.midStep c s) (fun _ => iprop((Known I K ∗ Ins I c) ∗ All8 (fun d t => Run c d t (s.val + 1)) ∗ Owe c (8 * s.val + 8 + 8))) := by
  iintro ⟨⟨#HC, HI⟩, HA, HO⟩
  unfold Bufs.midStep
  iapply (seq (show Ins I c ⊢ wpc c (bufs.loadXM true c s) _ from load_x I c (rXM true c s))) $$ HI
  iintro %x ⟨%hx, HI⟩
  iapply (seq (load_w I c true)) $$ HI
  iintro %w ⟨%hw, HI⟩
  iapply (seq (show Ins I c ⊢ wpc c (bufs.loadXM false c s) _ from load_x I c (rXM false c s))) $$ HI
  iintro %x' ⟨%hx', HI⟩
  iapply (seq (load_w I c false)) $$ HI
  iintro %w' ⟨%hw', HI⟩
  subst hx hw hx' hw'
  iapply (last (eight c (Owe c) (8 * s.val + 8) (fun d t => bufs.midTile d c s t (part I d c s)) (Known I K)
    (fun d t => Run c d t s.val) (fun d t => Run c d t (s.val + 1)) fun d t m hm => by
      have e : m = idx d s.succ t := by
        have h1 : (s.succ).val = s.val + 1 := rfl
        subst hm; unfold idx; rw [h1]; omega
      subst e
      exact midTile_spec I K c d s t _ rfl)) $$ [HA HO]
  · isplitr; · iexact HC
    isplitl [HA]; · iexact HA
    iexact HO
  iintro %_ ⟨-, HA, HO⟩
  isplitl [HI]
  · isplitr; · iexact HC
    iexact HI
  isplitl [HA]; · iexact HA
  iexact HO

/-! ## The handshake -/

/-- What device `c` owes on entry. -/
def owed₀ (c : Dev nD) : CellTallies nD τ sig Unit :=
  owed c 0 + tallyAt (cell (src false c) kBar) () 1 + tallyAt (cell (src true c) kBar) () 1

/-- The handshake: a device hands both neighbours its receive slots of one ring each, and receives theirs. -/
theorem hello_spec (c : Dev nD) (W : Waits sig Unit) :
    iprop(Known I K ∗ owes (c : Thread nD τ) (owed₀ c) W
        ∗ (dutyTok ER (cell (src true c) kBar) 0 true ∗ reached ER (cell (src true c) kBar) 0 ∗ barPay c true)
        ∗ (dutyTok ER (cell (src false c) kBar) 0 false ∗ reached ER (cell (src false c) kBar) 0 ∗ barPay c false)
        ∗ atPos ER (cell c kBar) 0 ∅ 0 ∗ cred (tallyAt (cell c kBar) () 2))
      ⊢ wpc c (Bufs.hello c) (fun _ => iprop(Owe c 0 ∗ barPay (toDev true c) true ∗ barPay (toDev false c) false
          ∗ atPos ER (cell c kBar) 1 ∅ 0)) := by
  iintro ⟨#HC, HO, ⟨Ht, #Hr, Hp⟩, ⟨Ht', #Hr', Hp'⟩, Hat, Hcr⟩
  unfold Bufs.hello
  rw [dev1_eq, dev2_eq]
  simp only [semSignalWord, semWaitWord, Prog.bind_op, Prog.bind_ret]
  unfold owed₀
  iapply (Rounds.wp_signal 𝒱₀ ER (Rd I) (c : Thread nD τ) none (dst := (src true c : Thread nD τ)) (sem := barS) (κ := K (src true c, kBar)) (r := 0)
      (d := true) (by have := Rd_duties I (src true c) kBar 0; exact this.symm ▸ Finset.mem_univ _)
      ((Rd_amount I (src true c) kBar 0 true).trans (by decide)) () (owed c 0 + tallyAt (cell (src false c) kBar) () 1) rfl) $$ [HO Ht Hp]
  · isplitr; · iapply (known_inv I K (src true c) kBar) $$ HC
    isplitl [HO]; · iexact HO
    isplitl [Ht]; · iexact Ht
    isplitl [Hp]
    · iapply (Entails.of_eq (show barPay c true = (Rd I).payload ((src true c : Thread nD τ), .reg barS) 0 true from by
        have e := Rd_payload I (src true c) kBar 0 true
        refine Eq.trans ?_ e.symm
        show _ = barPay (toDev true (src true c)) true
        rw [src, toDev_not])) $$ Hp
    iexact Hr
  iintro HO
  iapply (Rounds.wp_signal 𝒱₀ ER (Rd I) (c : Thread nD τ) none (dst := (src false c : Thread nD τ)) (sem := barS) (κ := K (src false c, kBar)) (r := 0)
      (d := false) (by have := Rd_duties I (src false c) kBar 0; exact this.symm ▸ Finset.mem_univ _)
      ((Rd_amount I (src false c) kBar 0 false).trans (by decide)) () (owed c 0) rfl) $$ [HO Ht' Hp']
  · isplitr; · iapply (known_inv I K (src false c) kBar) $$ HC
    isplitl [HO]; · iexact HO
    isplitl [Ht']; · iexact Ht'
    isplitl [Hp']
    · iapply (Entails.of_eq (show barPay c false = (Rd I).payload ((src false c : Thread nD τ), .reg barS) 0 false from by
        have e := Rd_payload I (src false c) kBar 0 false
        refine Eq.trans ?_ e.symm
        show _ = barPay (toDev false (src false c)) false
        rw [src, toDev_not])) $$ Hp'
    iexact Hr'
  iintro HO
  iapply (Rounds.wp_wait_rest_token 𝒱₀ ER (Rd I) (c : Thread nD τ) none (κ := K (c, kBar)) (sm := semOf kBar)
      (wpE_semWait_eq 𝒱₀ (c : Thread nD τ) none Set.univ) (Set.mem_univ _) () (O := owed c 0) (W := W) (R := 0) (m := 0) (T := ∅)
      (by rw [expect_bar]; decide)) $$ [Hcr HO Hat]
  · isplitr; · iapply (known_inv I K c kBar) $$ HC
    isplitl [Hcr]; · iexact Hcr
    isplitl [HO]; · iexact HO
    isplitr
    · iapply (mayWait_cell c (semOf kBar) 0 (by rw [kind_semOf]; decide))
      iapply (known_lev I K) $$ HC
    iexact Hat
  iintro ⟨HO, Hat, -, Hpay⟩
  ihave Hpay := (Entails.of_eq (rest_bar I c)) $$ Hpay
  icases Hpay with ⟨Hp, Hp'⟩
  rw [wp_ret]
  imodintro
  unfold Owe
  isplitl [HO]; · iexists _; iexact HO
  isplitl [Hp]; · iexact Hp
  isplitl [Hp']; · iexact Hp'
  iexact Hat

end Cert.KernelIdeal.Ring
-- ==== Proof.Tail.lean ====
/- The staging buffer, the copies to the output, and the whole body. -/
module

public import proofs.«01_k».proof.Proof.Steps
public import Idealize.ShloMosaic.Lib.ValueLayout

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (I : Inp F) (K : Dev nD × CK → ℕ)

/-! ## The output's staging buffer -/

/-- Half of tile `t` in the staging buffer. -/
abbrev rHalf (d : Bool) (t : Fin 4) : Rect S4x128x2048 :=
  Rect.unit (s := S4x128x2048) ![t.val, 0, col d] S1x128x1024.size (inbStageHalf d t)

/-- The view of half of a staged tile. -/
abbrev halfView (d : Bool) (t : Fin 4) : View sig .tc .vmem (rHalf d t).shape .f32 := bufs.stage.access (rHalf d t)

/-- Tile `t` in the staging buffer. -/
abbrev rTile (t : Fin 4) : Rect S4x128x2048 :=
  Rect.unit (s := S4x128x2048) ![t.val, 0, 0] S1x128x2048.size (inbStage t)

/-- A staged tile is its rectangle. -/
theorem stage_set (t : Fin 4) : (bufs.stageSlot t).view.set = (rTile t).set :=
  (View.set_reshape (bufs.stage.access (rTile t)) _).trans (View.set_slice_whole cc0_scratch0 _)

/-- Half of a staged tile is its rectangle. -/
theorem half_set (d : Bool) (t : Fin 4) : (halfView d t).set = (rHalf d t).set := View.set_slice_whole cc0_scratch0 _

/-- A half lies in its tile. -/
theorem half_rect (d : Bool) (t : Fin 4) : (rHalf d t).set ⊆ (rTile t).set := by
  intro i hi
  have h := Rect.mem_set_unit.mp hi
  refine Rect.mem_set_unit.mpr fun a => ?_
  match a with
  | ⟨0, _⟩ => exact h 0
  | ⟨1, _⟩ => exact h 1
  | ⟨2, _⟩ =>
    have h3 : col d ≤ (i 2).val ∧ (i 2).val < col d + 1024 := h 2
    show 0 ≤ (i 2).val ∧ (i 2).val < 0 + 2048
    have : col d ≤ 1024 := by cases d <;> decide
    omega

/-- A half of a staging tile lies in it. -/
theorem half_subset (d : Bool) (t : Fin 4) : (halfView d t).set ⊆ (bufs.stageSlot t).view.set :=
  ((le_of_eq (half_set d t)).trans (half_rect d t)).trans (le_of_eq (stage_set t).symm)

/-- The staging buffer after a half tile is stored. -/
def putHalf (d : Bool) (t : Fin 4) (f : (cc0_scratch0 : Ref sig .tc).ty.Contents (Elt F)) (w : FVec F S128x1024 .f32) :
    (cc0_scratch0 : Ref sig .tc).ty.Contents (Elt F) :=
  (halfView d t).write (Elt F) f (shapeCast S1x128x1024 w shapeCasts_S128x1024_S1x128x1024) Finset.univ

/-- Where an element of a staging tile's half lies. -/
theorem half_emb (d : Bool) (t : Fin 4) (j : S128x2048.Idx) (hd : Nat.blt (j 1).val 1024 = d) :
    (bufs.stageSlot t).view.emb j = (halfView d t).emb (Shape.reshapeEquiv shapeCasts_S1x128x1024_S128x1024 (colIn j)) := by
  have e1 : Shape.reshapeEquiv (squeezes_S1x128x2048_S128x2048).numel_eq j
      = ix3 (⟨0, Nat.one_pos⟩ : Fin 1) (j 0) (j 1) := by
    conv_lhs => rw [eq_ix2 j]
    exact reshapeEquiv_ix2_1ab _ (j 0) (j 1)
  have e2 : Shape.reshapeEquiv (s := S1x128x1024) (s' := S128x1024) shapeCasts_S1x128x1024_S128x1024 (colIn j)
      = ix3 (⟨0, Nat.one_pos⟩ : Fin 1) (colIn j 0) (colIn j 1) := by
    conv_lhs => rw [eq_ix2 (colIn j)]
    exact reshapeEquiv_ix2_1ab _ (colIn j 0) (colIn j 1)
  show (Rect.unit (s := S4x128x2048) ![t.val, 0, 0] S1x128x2048.size (inbStage t)).emb (Shape.reshapeEquiv (squeezes_S1x128x2048_S128x2048).numel_eq j)
    = (rHalf d t).emb (Shape.reshapeEquiv shapeCasts_S1x128x1024_S128x1024 (colIn j))
  rw [e1, e2]
  funext a
  apply Fin.ext
  match a with
  | ⟨0, _⟩ => rfl
  | ⟨1, _⟩ => rfl
  | ⟨2, _⟩ =>
    show 0 + 1 * (j 1).val = col d + 1 * ((j 1).val % 1024)
    have hj : (j 1).val < 2048 := (j 1).isLt
    cases d
    · have : ¬ (j 1).val < 1024 := by
        intro h; rw [Nat.blt_eq.mpr h] at hd; cases hd
      show _ = 1024 + _
      omega
    · have : (j 1).val < 1024 := Nat.blt_eq.mp hd
      show _ = 0 + _
      omega

/-- A stored half, read at its own elements. -/
theorem putHalf_in (d : Bool) (t : Fin 4) (f : (cc0_scratch0 : Ref sig .tc).ty.Contents (Elt F)) (w : FVec F S128x1024 .f32) (j : S128x1024.Idx) :
    putHalf d t f w ((halfView d t).emb (Shape.reshapeEquiv shapeCasts_S1x128x1024_S128x1024 j)) = w j := by
  refine (View.write_emb_of_mem (v := halfView d t) f _ (Finset.mem_univ _)).trans ?_
  show w (Shape.reshapeEquiv _ (Shape.reshapeEquiv _ j)) = _
  rw [Shape.reshapeEquiv_reshapeEquiv, Shape.reshapeEquiv_self]

/-- A stored half leaves the rest alone. -/
theorem putHalf_out (d : Bool) (t : Fin 4) (f : (cc0_scratch0 : Ref sig .tc).ty.Contents (Elt F)) (w : FVec F S128x1024 .f32)
    (i : (halfView d t).ty.Idx) (hi : i ∉ (halfView d t).set) : putHalf d t f w i = f i := by
  refine View.write_of_not_mem (v := halfView d t) f _ Finset.univ ?_
  rw [View.setOn_univ]
  exact hi

/-- The halves of a staging tile do not meet. -/
theorem half_apart (t : Fin 4) (j : (rHalf true t).shape.Idx) : (rHalf true t).emb j ∉ (rHalf false t).set := by
  intro h
  have h2 : 1024 ≤ 0 + 1 * (j 2).val := (Rect.mem_set_unit.mp h 2).1
  have : (j 2).val < 1024 := (j 2).isLt
  omega

/-- The two halves stored, read at an element of one of them. -/
theorem halves_at (t : Fin 4) (f : (cc0_scratch0 : Ref sig .tc).ty.Contents (Elt F)) (w : Bool → FVec F S128x1024 .f32) (j : S128x1024.Idx) :
    ∀ (d : Bool) (i : S4x128x2048.Idx), i = (halfView d t).emb (Shape.reshapeEquiv shapeCasts_S1x128x1024_S128x1024 j) →
      putHalf false t (putHalf true t f (w true)) (w false) i = w d j
  | false, _, h => (congrArg (putHalf false t (putHalf true t f (w true)) (w false)) h).trans (putHalf_in false t _ _ j)
  | true, i, h => by
    refine (putHalf_out false t _ _ i ?_).trans ((congrArg (putHalf true t f (w true)) h).trans (putHalf_in true t _ _ j))
    rw [half_set, h]
    exact half_apart t _

/-- A staged tile, read at an index, after both halves are written. -/
theorem stage_read_at (t : Fin 4) (f : (cc0_scratch0 : Ref sig .tc).ty.Contents (Elt F)) (w : Bool → FVec F S128x1024 .f32)
    (j : S128x2048.Idx) (d : Bool) (hd : Nat.blt (j 1).val 1024 = d) :
    (bufs.stageSlot t).view.read (Elt F) (putHalf false t (putHalf true t f (w true)) (w false)) j = w d (colIn j) := by
  have h := halves_at t f w (colIn j) d ((bufs.stageSlot t).view.emb j) (half_emb d t j hd)
  have e : ∀ g : (cc0_scratch0 : Ref sig .tc).ty.Contents (Elt F),
      (bufs.stageSlot t).view.read (Elt F) g j = g ((bufs.stageSlot t).view.emb j) := fun _ => rfl
  exact (e _).trans h

/-- What a staging tile reads after both halves are stored. -/
theorem stage_read (t : Fin 4) (f : (cc0_scratch0 : Ref sig .tc).ty.Contents (Elt F)) (w : Bool → FVec F S128x1024 .f32) :
    (bufs.stageSlot t).view.read (Elt F) (putHalf false t (putHalf true t f (w true)) (w false))
      = fun j => w (Nat.blt (j 1).val 1024) (colIn j) :=
  funext fun j => stage_read_at t f w j _ rfl

/-- Device `c`'s staging tile, at the contents of the whole buffer. -/
def stagePts (c : Dev nD) (t : Fin 4) (f : (cc0_scratch0 : Ref sig .tc).ty.Contents (Elt F)) : sProp 𝕄 :=
  (View.loc (c : Thread nD τ) (halfView true t) ↦[(bufs.stageSlot t).view.set]{fullShare} f)

/-- Take a staged tile out of its buffer. -/
theorem stage_open (c : Dev nD) (t : Fin 4) : stageAny c t ⊢ iprop(∃ f, stagePts (F := F) c t f) := by
  unfold stageAny owns
  iintro ⟨%v, %f, %hf, H⟩
  iexists f
  iapply (show (View.loc (c : Thread nD τ) (bufs.stageSlot t).view ↦[(bufs.stageSlot t).view.set]{fullShare} f) ⊢ stagePts (F := F) c t f from
    Entails.of_eq rfl)
  iexact H

/-- A load of a staging tile's half. -/
theorem load_stage {α : Type} (c : Dev nD) (d : Bool) (t : Fin 4) {Q : α → sProp 𝕄} {hl : bufs.stage.view.LoadsAt (rHalf d t).toLoadRect}
    {k : ((rHalf d t).shape.Idx → Elt F .f32) → TProg F α} (f : (cc0_scratch0 : Ref sig .tc).ty.Contents (Elt F)) :
    stagePts c t f ⊢ iprop((∀ v, stagePts c t f -∗ wpc c (k v) Q) -∗ wpc c (.op (.load bufs.stage (rHalf d t).toLoadRect hl) k) Q) := by
  have hl' : stagePts c t f ⊢ iprop((stagePts c t f -∗ wpc c (k (bufs.stage.view.readAt (Elt F) (rHalf d t).toLoadRect f)) Q)
      -∗ wpc c (.op (.load bufs.stage (rHalf d t).toLoadRect hl) k) Q) :=
    wp_load_rect (defs := defs₀ (F := F)) 𝒱₀ (c : Thread nD τ) none (Γ := .empty) Set.univ (Q := Q) (m := bufs.stage)
      (r := rHalf d t) (hl := hl) (k := k) (q := fullShare) (f := f) (half_subset d t)
  iintro H Hk
  iapply hl' $$ H
  iintro H
  iapply Hk
  iexact H

/-- A store into a staging tile's half. -/
theorem store_stage {α : Type} (c : Dev nD) (d : Bool) (t : Fin 4) {Q : α → sProp 𝕄} (w : FVec F S128x1024 .f32)
    {hx : (bufs.stage.access (rHalf d t)).Stores Finset.univ} {hm : (Finset.univ : Finset (rHalf d t).shape.Idx) = Finset.univ ∨ ∀ a, (rHalf d t).stride a = 1}
    {k : PUnit → TProg F α} (f : (cc0_scratch0 : Ref sig .tc).ty.Contents (Elt F)) :
    stagePts c t f ⊢ iprop((stagePts c t (putHalf d t f w) -∗ wpc c (k ⟨⟩) Q)
      -∗ wpc c (.op (.store bufs.stage (rHalf d t) (shapeCast S1x128x1024 w shapeCasts_S128x1024_S1x128x1024) Finset.univ hx hm) k) Q) := by
  have hs := wp_store (defs := defs₀ (F := F)) 𝒱₀ (c : Thread nD τ) none (Γ := .empty) Set.univ (Q := Q) (m := bufs.stage)
      (r := rHalf d t) (hx := hx) (hm := hm) (k := k) (f := f)
      (w := shapeCast S1x128x1024 w shapeCasts_S128x1024_S1x128x1024) (half_subset d t)
  exact hs

/-- Put a staged tile back. -/
theorem stage_close (c : Dev nD) (t : Fin 4) (f : (cc0_scratch0 : Ref sig .tc).ty.Contents (Elt F)) :
    stagePts c t f ⊢ owns (c : Thread nD τ) (bufs.stageSlot t) fullShare ((bufs.stageSlot t).view.read (Elt F) f) :=
  owns_intro (c : Thread nD τ) (bufs.stageSlot t) fullShare f

/-- Half a tile of the last step. -/
theorem lastHalf_spec (c : Dev nD) (d : Bool) (t : Fin 4) (sc : F .f32) (p : FVec F S512x1024 .bf16) (hs : sc = scale I c) (hp : p = partL I d c)
    (f : (cc0_scratch0 : Ref sig .tc).ty.Contents (Elt F)) :
    iprop(Known I K ∗ (Rcv c d t 6 ∗ Gots c d t 6) ∗ Owe c 56 ∗ stagePts c t f)
      ⊢ wpc c (bufs.lastHalf d t sc p) (fun _ => iprop((Rcv c d t 7 ∗ Gots c d t 7) ∗ Owe c 56 ∗ stagePts c t (putHalf d t f (half I d c t)))) := by
  subst hs hp
  iintro ⟨#HC, ⟨HR, HG⟩, HO, HS⟩
  unfold Bufs.lastHalf
  iapply (seq (pull_spec I K c d 6 t 56 (idx_lt (d, 6, t)))) $$ [HR HG HO]
  · isplitr; · iexact HC
    isplitl [HR]; · iexact HR
    isplitl [HG]; · iexact HG
    iexact HO
  iintro %v ⟨%hv, HR, HG, HO⟩
  subst hv
  simp only [Prog.lift, Prog.bind_op, Prog.bind_ret]
  iapply (load_stage c d t f) $$ HS
  iintro %_ HS
  iapply (store_stage c d t (half I d c t) f) $$ HS
  iintro HS
  rw [wpc, wp_ret]
  imodintro
  isplitl [HR HG]
  · isplitl [HR]; · iexact HR
    iexact HG
  isplitl [HO]; · iexact HO
  iexact HS

/-- A lane after its last transfer was started, `n` slots read. -/
def Mid (c : Dev nD) (d : Bool) (t : Fin 4) (n : ℕ) : sProp 𝕄 :=
  iprop(Fly c d t 6 ∗ Fut c d t 7 ∗ Rcv c d t n ∗ Gots c d t n)

/-- What an output tile's copy needs. -/
def OutD (c : Dev nD) (t : Fin 4) : sProp 𝕄 :=
  iprop(stageAny c t ∗ (∃ v, owns (c : Thread nD τ) (bufs.outRows t) fullShare v)
    ∗ dutyTok ER (cell c (kOut t)) 0 true ∗ reached ER (cell c (kOut t)) 0)

/-- What a finished output copy hands over. -/
theorem pay_out (c : Dev nD) (t : Fin 4) (f : (cc0_scratch0 : Ref sig .tc).ty.Contents (Elt F)) (g : (bufs.outRows t).view.ty.Contents (Elt F))
    (hf : (bufs.stageSlot t).view.read (Elt F) f = outTile I c t) :
    iprop((View.loc (c : Thread nD τ) (bufs.outRows t).view ↦[(bufs.outRows t).view.set]{fullShare}
          ((bufs.outRows t).view.write (Elt F) g ((bufs.stageSlot t).view.read (Elt F) f) Finset.univ))
        ∗ (View.loc (c : Thread nD τ) (bufs.stageSlot t).view ↦[(bufs.stageSlot t).view.set]{fullShare} f))
      ⊢ (Rd I).payload (cell c (kOut t)) 0 true := by
  rw [Rd_payload]
  show _ ⊢ outPay I c t
  unfold outPay stageAny
  have e : outTile I c t = (bufs.outRows t).view.read (Elt F) ((bufs.outRows t).view.write (Elt F) g
      ((bufs.stageSlot t).view.read (Elt F) f) Finset.univ) := by
    rw [View.read_write_univ, hf]
  rw [e]
  iintro ⟨H, H'⟩
  isplitl [H']
  · iexists _
    iapply (owns_intro (c : Thread nD τ) (bufs.stageSlot t) fullShare f) $$ H'
  · iapply (owns_intro (c : Thread nD τ) (bufs.outRows t) fullShare _) $$ H

/-- The copy of an output tile. -/
theorem copy_out {α : Type} (c : Dev nD) (t : Fin 4) (f : (cc0_scratch0 : Ref sig .tc).ty.Contents (Elt F))
    (hf : (bufs.stageSlot t).view.read (Elt F) f = outTile I c t) {Q : α → sProp 𝕄}
    {h1 : (bufs.stageSlot t).view.WordExact} {h2 : (bufs.outRows t).view.WordExact}
    {h3 : DmaTarget.Typed (nD := nD) .vmem (.dma (bufs.outSem t)) (DmaTarget.here (p := (c : Thread nD τ).2) (bufs.outRows t))} {k : PUnit → TProg F α} :
    iprop(Known I K ∗ stagePts c t f ∗ (∃ v, owns (c : Thread nD τ) (bufs.outRows t) fullShare v)
        ∗ dutyTok ER (cell c (kOut t)) 0 true ∗ reached ER (cell c (kOut t)) 0)
      ⊢ iprop((cred (tallyAt (cell c (kOut t)) () amtOut) -∗ wpc c (k ⟨⟩) Q)
        -∗ wpc c (.op (.enqueueDma (bufs.stageSlot t) (.here (bufs.outRows t)) (.dma (bufs.outSem t)) h1 h2 h3) k) Q) := by
  have hs := fun (g : (bufs.outRows t).view.ty.Contents (Elt F)) =>
    Rounds.wp_copy_pointsTo (defs := defs₀ (F := F)) (Q := Q) (k := k) (Γ := .empty) 𝒱₀ ER (Rd I) (c : Thread nD τ) none (Es := Set.univ)
      (src := bufs.stageSlot t) (dst := bufs.outRows t) (sem := .dma (bufs.outSem t)) (hsrc := h1) (hdst := h2) (hsem := h3)
      (κ := K (c, kOut t)) (q := fullShare) (fs := f) (fd := g) (r := 0) (d := true)
      (by have := Rd_duties I c (kOut t) 0; exact this.symm ▸ Finset.mem_singleton_self _)
      () amtOut (amt_out t) (Rd_amount I c (kOut t) 0 true) (pay_out I c t f g hf)
  unfold owns
  iintro ⟨#HC, HS, ⟨%v, %g, %hg, HD⟩, Htk, #Hr⟩
  iapply (hs g)
  isplitr; · iapply (known_inv I K c (kOut t)) $$ HC
  isplitl [HS]
  · iapply (show stagePts c t f ⊢ (View.loc (c : Thread nD τ) (bufs.stageSlot t).view ↦[(bufs.stageSlot t).view.set]{fullShare} f) from
      Entails.of_eq rfl)
    iexact HS
  isplitl [HD]; · iexact HD
  isplitl [Htk]; · iexact Htk
  iexact Hr

/-- One tile of the last step. -/
theorem lastTile_spec (c : Dev nD) (t : Fin 4) :
    iprop((Known I K ∗ Owe c 56) ∗ ((Mid c true t 6 ∗ Mid c false t 6) ∗ OutD c t))
      ⊢ wpc c (bufs.lastTile t (scale I c) (partL I true c) (partL I false c))
        (fun _ => iprop((Known I K ∗ Owe c 56) ∗ ((Mid c true t 7 ∗ Mid c false t 7) ∗ cred (tallyAt (cell c (kOut t)) () amtOut)))) := by
  unfold Mid OutD
  iintro ⟨⟨#HC, HO⟩, ⟨⟨HF, HU, HR, HG⟩, ⟨HF', HU', HR', HG'⟩⟩, HS, HD, Htk, Hr⟩
  ihave HS := (stage_open c t) $$ HS
  icases HS with ⟨%f, HS⟩
  unfold Bufs.lastTile
  iapply (seq (lastHalf_spec I K c true t _ _ rfl rfl f)) $$ [HR HG HO HS]
  · isplitr; · iexact HC
    isplitl [HR HG]
    · isplitl [HR]; · iexact HR
      iexact HG
    isplitl [HO]; · iexact HO
    iexact HS
  iintro %_ ⟨⟨HR, HG⟩, HO, HS⟩
  iapply (seq (lastHalf_spec I K c false t _ _ rfl rfl _)) $$ [HR' HG' HO HS]
  · isplitr; · iexact HC
    isplitl [HR' HG']
    · isplitl [HR']; · iexact HR'
      iexact HG'
    isplitl [HO]; · iexact HO
    iexact HS
  iintro %_ ⟨⟨HR', HG'⟩, HO, HS⟩
  simp only [Prog.lift]
  iapply (copy_out I K c t _ (stage_read t f (fun d => half I d c t))) $$ [HS HD Htk Hr]
  · isplitr; · iexact HC
    isplitl [HS]; · iexact HS
    isplitl [HD]; · iexact HD
    isplitl [Htk]; · iexact Htk
    iexact Hr
  iintro Hcr
  rw [wpc, wp_ret]
  imodintro
  isplitl [HO]
  · isplitr; · iexact HC
    iexact HO
  isplitr [Hcr]
  · isplitl [HF HU HR HG]
    · isplitl [HF]; · iexact HF
      isplitl [HU]; · iexact HU
      isplitl [HR]; · iexact HR
      iexact HG
    · isplitl [HF']; · iexact HF'
      isplitl [HU']; · iexact HU'
      isplitl [HR']; · iexact HR'
      iexact HG'
  iexact Hcr

/-! ## Four tiles at once -/

/-- Something held for every tile. -/
def All4 (Φ : Fin 4 → sProp 𝕄) : sProp 𝕄 := iprop(Φ 0 ∗ Φ 1 ∗ Φ 2 ∗ Φ 3)

/-- Four tiles one by one are all tiles. -/
theorem all4_eq (Φ : Fin 4 → sProp 𝕄) : All4 Φ = bigSep Finset.univ Φ := by
  rw [bigSep_univ_eq_bigSepL [0, 1, 2, 3] (by decide) (by decide), bigSepL_cons_cons, bigSepL_cons_cons, bigSepL_cons_cons, bigSepL_singleton]
  rfl

/-- Held for every lane is held for both lanes of every tile. -/
theorem all8_all4 (Φ : Bool → Fin 4 → sProp 𝕄) : All8 Φ = All4 fun t => iprop(Φ true t ∗ Φ false t) := by
  have h1 : All8 Φ ⊢ All4 fun t => iprop(Φ true t ∗ Φ false t) := by
    unfold All8 All4
    iintro ⟨A0, A1, A2, A3, A4, A5, A6, A7⟩
    isplitl [A0 A1]
    · isplitl [A0]; · iexact A0
      iexact A1
    isplitl [A2 A3]
    · isplitl [A2]; · iexact A2
      iexact A3
    isplitl [A4 A5]
    · isplitl [A4]; · iexact A4
      iexact A5
    isplitl [A6]; · iexact A6
    iexact A7
  have h2 : (All4 fun t => iprop(Φ true t ∗ Φ false t)) ⊢ All8 Φ := by
    unfold All8 All4
    iintro ⟨⟨A0, A1⟩, ⟨A2, A3⟩, ⟨A4, A5⟩, A6, A7⟩
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  exact equiv_iff.mp ⟨h1, h2⟩

/-- A product of pairs is a pair of products. -/
theorem sepU {T : Type} [Fintype T] (Φ Ψ : T → sProp 𝕄) :
    (bigSep Finset.univ fun i => iprop(Φ i ∗ Ψ i)) = iprop(bigSep Finset.univ Φ ∗ bigSep Finset.univ Ψ) := bigSep_sep _ _ _

/-- Two directions and four tiles one by one are all. -/
theorem all8_eq (Φ : Bool → Fin 4 → sProp 𝕄) : All8 Φ = bigSep Finset.univ fun d : Bool => bigSep Finset.univ fun t : Fin 4 => Φ d t := by
  rw [all8_all4, all4_eq]
  rw [bigSep_univ_eq_bigSepL (I := Bool) [true, false] (by decide) (by decide), bigSepL_cons_cons, bigSepL_singleton]
  exact sepU _ _

/-- Split four pairs. -/
theorem all4_sep (Φ Ψ : Fin 4 → sProp 𝕄) : All4 (fun t => iprop(Φ t ∗ Ψ t)) = iprop(All4 Φ ∗ All4 Ψ) := by
  rw [all4_eq, all4_eq, all4_eq]
  exact sepU _ _

/-- A part run for every tile in order. -/
theorem four (c : Dev nD) (f : Fin 4 → TProg F PUnit) (R : sProp 𝕄) (A B : Fin 4 → sProp 𝕄)
    (h : ∀ t, iprop(R ∗ A t) ⊢ wpc c (f t) (fun _ => iprop(R ∗ B t))) :
    iprop(R ∗ All4 A) ⊢ wpc c (do
      f 0
      f 1
      f 2
      f 3) (fun _ => iprop(R ∗ All4 B)) := by
  unfold All4
  iintro ⟨HR, ⟨A0, A1, A2, A3⟩⟩
  iapply (seq (h 0)) $$ [HR A0]
  · isplitl [HR]; · iexact HR
    iexact A0
  iintro %_ ⟨HR, B0⟩
  iapply (seq (h 1)) $$ [HR A1]
  · isplitl [HR]; · iexact HR
    iexact A1
  iintro %_ ⟨HR, B1⟩
  iapply (seq (h 2)) $$ [HR A2]
  · isplitl [HR]; · iexact HR
    iexact A2
  iintro %_ ⟨HR, B2⟩
  iapply (last (h 3)) $$ [HR A3]
  · isplitl [HR]; · iexact HR
    iexact A3
  iintro %_ ⟨HR, B3⟩
  isplitl [HR]; · iexact HR
  isplitl [B0]; · iexact B0
  isplitl [B1]; · iexact B1
  isplitl [B2]; · iexact B2
  iexact B3

/-- The last step. -/
theorem lastStep_spec (c : Dev nD) :
    iprop((Known I K ∗ Ins I c) ∗ All8 (fun d t => Mid c d t 6) ∗ Owe c 56 ∗ All4 (OutD c))
      ⊢ wpc c (bufs.lastStep c) (fun _ => iprop((Known I K ∗ Ins I c) ∗ All8 (fun d t => Mid c d t 7) ∗ Owe c 56
          ∗ All4 (fun t => cred (tallyAt (cell c (kOut t)) () amtOut)))) := by
  rw [all8_all4, all8_all4]
  iintro ⟨⟨#HC, HI⟩, HA, HO, HD⟩
  unfold Bufs.lastStep
  iapply (seq (show Ins I c ⊢ wpc c (bufs.loadXL c) _ from load_x I c (rXL c))) $$ HI
  iintro %x ⟨%hx, HI⟩
  iapply (seq (load_w I c true)) $$ HI
  iintro %w ⟨%hw, HI⟩
  iapply (seq (show Ins I c ⊢ wpc c (bufs.loadXL c) _ from load_x I c (rXL c))) $$ HI
  iintro %x' ⟨%hx', HI⟩
  iapply (seq (load_w I c false)) $$ HI
  iintro %w' ⟨%hw', HI⟩
  iapply (seq (load_sx I c)) $$ HI
  iintro %a ⟨%ha, HI⟩
  iapply (seq (load_sw I c)) $$ HI
  iintro %b ⟨%hb, HI⟩
  subst hx hw hx' hw' ha hb
  have hf := four c (fun t => bufs.lastTile t (scale I c) (partL I true c) (partL I false c)) iprop(Known I K ∗ Owe c 56)
    (fun t => iprop((Mid c true t 6 ∗ Mid c false t 6) ∗ OutD c t))
    (fun t => iprop((Mid c true t 7 ∗ Mid c false t 7) ∗ cred (tallyAt (cell c (kOut t)) () amtOut))) (lastTile_spec I K c)
  rw [all4_sep (fun t => iprop(Mid c true t 6 ∗ Mid c false t 6)) (OutD c),
    all4_sep (fun t => iprop(Mid c true t 7 ∗ Mid c false t 7)) (fun t => cred (tallyAt (cell c (kOut t)) () amtOut))] at hf
  iapply (last hf) $$ [HA HO HD]
  · isplitl [HO]
    · isplitr; · iexact HC
      iexact HO
    isplitl [HA]; · iexact HA
    iexact HD
  iintro %_ ⟨⟨-, HO⟩, HA, HD⟩
  isplitl [HI]
  · isplitr; · iexact HC
    iexact HI
  isplitl [HA]; · iexact HA
  isplitl [HO]; · iexact HO
  iexact HD

/-! ## The drain -/

/-- A lane at the end. -/
def Done (c : Dev nD) (d : Bool) (t : Fin 4) : sProp 𝕄 :=
  iprop(Free c d t 7 ∗ Fut c d t 7 ∗ Rcv c d t 7 ∗ Gots c d t 7)

/-- The wait for a tile's last send. -/
theorem lastWait_spec (c : Dev nD) (d : Bool) (t : Fin 4) :
    iprop(Known I K ∗ Mid c d t 7 ∗ Owe c 56) ⊢ wpc c (bufs.waitSent d 6 t) (fun _ => iprop(Known I K ∗ Done c d t ∗ Owe c 56)) := by
  unfold Mid Done
  iintro ⟨#HC, ⟨HF, HU, HR, HG⟩, HO⟩
  iapply (last (waitSent_spec I K c d 6 t 56)) $$ [HF HO]
  · isplitr; · iexact HC
    isplitl [HF]; · iexact HF
    iexact HO
  iintro %_ ⟨HF, HO⟩
  isplitr; · iexact HC
  isplitr [HO]
  · isplitl [HF]; · iexact HF
    isplitl [HU]; · iexact HU
    isplitl [HR]; · iexact HR
    iexact HG
  iexact HO

/-- The wait for an output tile's copy. -/
theorem waitOut_spec (c : Dev nD) (t : Fin 4) :
    iprop((Known I K ∗ Owe c 56) ∗ (cred (tallyAt (cell c (kOut t)) () amtOut) ∗ atPos ER (cell c (kOut t)) 0 ∅ 0))
      ⊢ wpc c (bufs.waitOut t) (fun _ => iprop((Known I K ∗ Owe c 56) ∗ (atPos ER (cell c (kOut t)) 1 ∅ 0 ∗ outPay I c t))) := by
  iintro ⟨⟨#HC, HO⟩, Hcr, Hat⟩
  unfold Bufs.waitOut
  simp only [Prog.lift]
  iapply (wait_cell I K c (kOut t) 0 56 rfl (by show 0 < _; omega) (amt_out t)
    (wpE_waitDma2_eq 𝒱₀ (c : Thread nD τ) none Set.univ)) $$ [Hat Hcr HO]
  · isplitr; · iexact HC
    isplitl [Hcr]; · iexact Hcr
    isplitl [HO]; · iexact HO
    iexact Hat
  iintro ⟨HO, Hat, Hr, Hp⟩
  rw [wpc, wp_ret]
  imodintro
  isplitl [HO]
  · isplitr; · iexact HC
    iexact HO
  isplitl [Hat]; · iexact Hat
  iapply (Entails.of_eq (show payK I c (kOut t) 0 true = outPay I c t from rfl)) $$ Hp

/-- The closing waits, written out. -/
theorem drain_eq : (bufs.drain : TProg F PUnit) = (do
      bufs.waitSent true 6 0
      bufs.waitSent false 6 0
      bufs.waitSent true 6 1
      bufs.waitSent false 6 1
      bufs.waitSent true 6 2
      bufs.waitSent false 6 2
      bufs.waitSent true 6 3
      bufs.waitSent false 6 3) >>= fun _ => (do
      bufs.waitOut 0
      bufs.waitOut 1
      bufs.waitOut 2
      bufs.waitOut 3) := by
  unfold Bufs.drain
  simp only [bind_assoc]

/-- The waits at the end. -/
theorem drain_spec (c : Dev nD) :
    iprop(Known I K ∗ All8 (fun d t => Mid c d t 7) ∗ Owe c 56 ∗ All4 (fun t => cred (tallyAt (cell c (kOut t)) () amtOut))
        ∗ All4 (fun t => atPos ER (cell c (kOut t)) 0 ∅ 0))
      ⊢ wpc c bufs.drain (fun _ => iprop(All8 (Done c) ∗ Owe c 56 ∗ All4 (fun t => iprop(atPos ER (cell c (kOut t)) 1 ∅ 0 ∗ outPay I c t)))) := by
  rw [drain_eq]
  iintro ⟨#HC, HA, HO, HD, HE⟩
  iapply (seq (eight c (fun _ => Owe c 56) 0 (fun d t => bufs.waitSent d 6 t) (Known I K) (fun d t => Mid c d t 7) (Done c)
    fun d t _ _ => lastWait_spec I K c d t)) $$ [HA HO]
  · isplitr; · iexact HC
    isplitl [HA]; · iexact HA
    iexact HO
  iintro %_ ⟨-, HA, HO⟩
  have hf := four c (fun t => bufs.waitOut t) iprop(Known I K ∗ Owe c 56) _ _ (waitOut_spec I K c)
  rw [all4_sep] at hf
  iapply (last hf) $$ [HO HD HE]
  · isplitl [HO]
    · isplitr; · iexact HC
      iexact HO
    isplitl [HD]; · iexact HD
    iexact HE
  iintro %_ ⟨⟨-, HO⟩, HD⟩
  isplitl [HA]; · iexact HA
  isplitl [HO]; · iexact HO
  iexact HD

/-! ## The whole body -/

/-- The two tokens of a transfer. -/
def Toks (c : Dev nD) (d : Bool) (t : Fin 4) (s : Fin 7) : sProp 𝕄 :=
  iprop(dutyTok ER (cell (toDev d c) (kRcv d s t)) 0 true ∗ dutyTok ER (cell c (kSnd d t)) s.val true)

/-- A slot handed over by a neighbour. -/
def Slot (c : Dev nD) (d : Bool) (t : Fin 4) (s : Fin 7) : sProp 𝕄 :=
  iprop(slotAny c d s t ∗ reached ER (cell c (kRcv d s t)) 0)

/-- A token and the neighbour's slot are what a send needs. -/
theorem duty_of (c : Dev nD) (d : Bool) (t : Fin 4) (s : Fin 7) : iprop(Toks c d t s ∗ Slot (toDev d c) d t s) ⊢ Duty (F := F) c d t s := by
  unfold Toks Slot Duty
  iintro ⟨⟨A, B⟩, C, D⟩
  isplitl [A]; · iexact A
  isplitl [B]; · iexact B
  isplitl [C]; · iexact C
  iexact D

/-- What a lane is given on entry; the slots it sends to arrive with the handshake. -/
def Pre (c : Dev nD) (d : Bool) (t : Fin 4) : sProp 𝕄 :=
  iprop(Free c d t 0 ∗ bigSep Finset.univ (Toks c d t) ∗ bigSep Finset.univ (Await c d t))

/-- The neighbour's slots complete a lane. -/
theorem pre_start (c : Dev nD) (d : Bool) (t : Fin 4) :
    iprop(Pre c d t ∗ bigSep Finset.univ (Slot (toDev d c) d t)) ⊢ Start (F := F) c d t := by
  have e : iprop(bigSep Finset.univ (Toks c d t) ∗ bigSep Finset.univ (Slot (toDev d c) d t)) ⊢ (Fut c d t 0 : sProp 𝕄) := by
    unfold Fut
    rw [show (Finset.univ.filter fun s : Fin 7 => 0 ≤ s.val) = Finset.univ from by decide, ← sepU]
    exact bigSep_mono fun s _ => duty_of c d t s
  have e1 : (bigSep Finset.univ (Await c d t)) = (Rcv c d t 0 : sProp 𝕄) := by
    unfold Rcv
    rw [show (Finset.univ.filter fun s : Fin 7 => 0 ≤ s.val) = Finset.univ from by decide]
  have e2 : (Gots c d t 0 : sProp 𝕄) = iprop(emp) := by
    unfold Gots
    rw [show (Finset.univ.filter fun s : Fin 7 => s.val < 0) = ∅ from by decide]
    exact bigSep_empty
  unfold Pre Start
  rw [e1, e2]
  iintro ⟨⟨HF, HT, HR⟩, HB⟩
  isplitl [HF]; · iexact HF
  isplitl [HT HB]
  · iapply e
    isplitl [HT]; · iexact HT
    iexact HB
  isplitl [HR]; · iexact HR
  iempintro

/-- From the tiles' own pieces and both neighbours' slots, what the first step needs. -/
theorem start_all (c : Dev nD) :
    iprop(All8 (Pre c) ∗ barPay (toDev true c) true ∗ barPay (toDev false c) false) ⊢ All8 (Start (F := F) c) := by
  have e : iprop(barPay (toDev true c) true ∗ barPay (toDev false c) false)
      = (bigSep Finset.univ fun d : Bool => bigSep Finset.univ fun t : Fin 4 => bigSep Finset.univ (Slot (toDev d c) d t) : sProp 𝕄) := by
    rw [bigSep_univ_eq_bigSepL (I := Bool) [true, false] (by decide) (by decide), bigSepL_cons_cons, bigSepL_singleton]
    rfl
  rw [e, all8_eq, all8_eq, ← sepU]
  refine bigSep_mono fun d _ => ?_
  rw [← sepU]
  exact bigSep_mono fun t _ => pre_start c d t

/-- What the body is entered with. -/
def Entry (c : Dev nD) : sProp 𝕄 :=
  iprop((dutyTok ER (cell (src true c) kBar) 0 true ∗ reached ER (cell (src true c) kBar) 0 ∗ barPay c true)
    ∗ (dutyTok ER (cell (src false c) kBar) 0 false ∗ reached ER (cell (src false c) kBar) 0 ∗ barPay c false)
    ∗ atPos ER (cell c kBar) 0 ∅ 0 ∗ cred (tallyAt (cell c kBar) () 2)
    ∗ All8 (Pre c) ∗ All4 (OutD c) ∗ All4 (fun t => atPos ER (cell c (kOut t)) 0 ∅ 0))

/-- What the body ends with. -/
def Exit (c : Dev nD) : sProp 𝕄 :=
  iprop(All8 (Done c) ∗ All4 (fun t => iprop(atPos ER (cell c (kOut t)) 1 ∅ 0 ∗ outPay I c t)) ∗ atPos ER (cell c kBar) 1 ∅ 0)

/-- The lanes between two middle steps. -/
def MidAt (c : Dev nD) (n : ℕ) : sProp 𝕄 := iprop(All8 (fun d t => Run c d t n) ∗ Owe c (8 * n + 8))

/-- A middle step, all tiles: from one state between steps to the next. -/
theorem mid_at (c : Dev nD) (s : Fin 6) (n m : ℕ) (hn : s.val = n) (hm : m = n + 1) :
    iprop((Known I K ∗ Ins I c) ∗ MidAt c n) ⊢ wpc c (bufs.midStep c s) (fun _ => iprop((Known I K ∗ Ins I c) ∗ MidAt c m)) := by
  subst hn hm
  exact midStep_spec I K c s

/-- The body. -/
theorem prog_spec (c : Dev nD) (W : Waits sig Unit) :
    iprop((Known I K ∗ Ins I c) ∗ owes (c : Thread nD τ) (owed₀ c) W ∗ Entry c)
      ⊢ wpc c bufs.prog (fun _ => iprop(Known I K ∗ Ins I c ∗ Owe c 56 ∗ Exit I c)) := by
  unfold Entry Exit
  iintro ⟨⟨#HC, HI⟩, HO, Hb, Hb', Hat, Hcr, HP, HD, HE⟩
  unfold Bufs.prog
  simp only [Prog.lift, Prog.bind_op, Prog.bind_ret]
  rw [wpc, wp_deviceId]
  iapply (seq (hello_spec I K c W)) $$ [HO Hb Hb' Hat Hcr]
  · isplitr; · iexact HC
    isplitl [HO]; · iexact HO
    isplitl [Hb]; · iexact Hb
    isplitl [Hb']; · iexact Hb'
    isplitl [Hat]; · iexact Hat
    iexact Hcr
  iintro %_ ⟨HO, Hb, Hb', Hat⟩
  ihave HA := (start_all c) $$ [HP Hb Hb']
  · isplitl [HP]; · iexact HP
    isplitl [Hb]; · iexact Hb
    iexact Hb'
  iapply (seq (firstStep_spec I K c)) $$ [HI HA HO]
  · isplitl [HI]
    · isplitr; · iexact HC
      iexact HI
    isplitl [HA]; · iexact HA
    iexact HO
  iintro %_ H
  iapply (seq (mid_at I K c 0 0 1 rfl rfl)) $$ [H]
  · iapply (Entails.of_eq (show iprop((Known I K ∗ Ins I c) ∗ All8 (fun d t => Run c d t 0) ∗ Owe c 8)
      = iprop((Known I K ∗ Ins I c) ∗ MidAt c 0) from rfl)) $$ H
  iintro %_ H
  iapply (seq (mid_at I K c 1 1 2 rfl rfl)) $$ H
  iintro %_ H
  iapply (seq (mid_at I K c 2 2 3 rfl rfl)) $$ H
  iintro %_ H
  iapply (seq (mid_at I K c 3 3 4 rfl rfl)) $$ H
  iintro %_ H
  iapply (seq (mid_at I K c 4 4 5 rfl rfl)) $$ H
  iintro %_ H
  iapply (seq (mid_at I K c 5 5 6 rfl rfl)) $$ H
  iintro %_ H
  ihave H := (Entails.of_eq (show iprop((Known I K ∗ Ins I c) ∗ MidAt c 6)
      = iprop((Known I K ∗ Ins I c) ∗ All8 (fun d t => Mid c d t 6) ∗ Owe c 56) from rfl)) $$ H
  icases H with ⟨HI, HA, HO⟩
  iapply (seq (lastStep_spec I K c)) $$ [HI HA HO HD]
  · isplitl [HI]; · iexact HI
    isplitl [HA]; · iexact HA
    isplitl [HO]; · iexact HO
    iexact HD
  iintro %_ ⟨⟨-, HI⟩, HA, HO, HD⟩
  iapply (last (drain_spec I K c)) $$ [HA HO HD HE]
  · isplitr; · iexact HC
    isplitl [HA]; · iexact HA
    isplitl [HO]; · iexact HO
    isplitl [HD]; · iexact HD
    iexact HE
  iintro %_ ⟨HA, HO, HD⟩
  isplitr; · iexact HC
  isplitl [HI]; · iexact HI
  isplitl [HO]; · iexact HO
  isplitl [HA]; · iexact HA
  isplitl [HD]; · iexact HD
  iexact Hat

end Cert.KernelIdeal.Ring
-- ==== Proof.Pieces.lean ====
/- Buffers cut into slots and tiles, and put together again. -/
module

public import proofs.«01_k».proof.Proof.Tail
public import Idealize.ShloMosaic.Lib.Ring

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (I : Inp F) (K : Dev nD × CK → ℕ)

/-! ## A buffer and its pieces, at any contents -/

/-- A memref held at some contents. -/
def anyAt (c : Dev nD) {sp : Space} {s : Shape} {e : EltTy} (m : Memref sig .tc sp s e) : sProp 𝕄 :=
  iprop(∃ v, owns (c : Thread nD τ) m fullShare v)

/-- Contents forgotten. -/
theorem anyAt_intro (c : Dev nD) {sp : Space} {s : Shape} {e : EltTy} (m : Memref sig .tc sp s e) (v : Vec F s e) :
    owns (c : Thread nD τ) m fullShare v ⊢ anyAt (F := F) c m := by
  unfold anyAt
  iintro H
  iexists v
  iexact H

/-- A buffer at any contents, spelt out. -/
theorem anyAt_eq (c : Dev nD) {sp : Space} {s : Shape} {e : EltTy} (m : Memref sig .tc sp s e) :
    anyAt (F := F) c m = iprop(∃ f : Buf (Elt F) (m.view.loc (c : Thread nD τ)), (m.view.loc (c : Thread nD τ) ↦[m.view.set]{fullShare} f)) := by
  have h1 : anyAt (F := F) c m ⊢ iprop(∃ f : Buf (Elt F) (m.view.loc (c : Thread nD τ)), (m.view.loc (c : Thread nD τ) ↦[m.view.set]{fullShare} f)) := by
    unfold anyAt owns
    iintro ⟨%v, %f, %hf, H⟩
    iexists f
    iexact H
  have h2 : iprop(∃ f : Buf (Elt F) (m.view.loc (c : Thread nD τ)), (m.view.loc (c : Thread nD τ) ↦[m.view.set]{fullShare} f)) ⊢ anyAt (F := F) c m := by
    unfold anyAt
    iintro ⟨%f, H⟩
    iexists _
    iapply (owns_intro (c : Thread nD τ) m fullShare f) $$ H
  exact equiv_iff.mp ⟨h1, h2⟩

/-- A whole buffer at any contents. -/
theorem anyAt_whole (c : Dev nD) (b : Ref sig .tc) :
    anyAt (F := F) c (Memref.whole b) = iprop(∃ f : Buf (Elt F) ((c : Thread nD τ).loc b), ((c : Thread nD τ).loc b) ↦{fullShare} f) := by
  rw [anyAt_eq]
  simp only [Memref.view_whole, View.set_whole]

/-- Dropping axes of size one changes nothing. -/
theorem anyAt_squeeze (c : Dev nD) {sp : Space} {s : Shape} {e : EltTy} (m : Memref sig .tc sp s e) (s' : Shape) (h : s.Squeezes s') :
    anyAt (F := F) c (m.squeeze s' h) = anyAt c m := by
  rw [anyAt_eq, anyAt_eq]
  have e : (m.squeeze s' h).view.set = m.view.set := View.set_reshape m.view _
  rw [e]

/-- A memref is its slices along a disjoint covering family. -/
theorem anyAt_rects (c : Dev nD) {sp : Space} {s : Shape} {e : EltTy} (m : Memref sig .tc sp s e) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ) :
    anyAt (F := F) c m = bigSep Finset.univ fun t => anyAt c (m.slice (r t) (hr t)) := by
  have h1 : anyAt (F := F) c m ⊢ bigSep Finset.univ fun t => anyAt c (m.slice (r t) (hr t)) := by
    rw [anyAt_eq]
    iintro ⟨%f, H⟩
    ihave H := (Entails.of_eq (pointsTo_rects (c : Thread nD τ) m fullShare r hr hd hcov f)) $$ H
    have hm : (bigSep Finset.univ fun t => owns (c : Thread nD τ) (m.slice (r t) (hr t)) fullShare (fun j => m.view.read (Elt F) f ((r t).emb j)))
        ⊢ (bigSep Finset.univ fun t => anyAt c (m.slice (r t) (hr t)) : sProp 𝕄) := bigSep_mono fun t _ =>
      anyAt_intro c (m.slice (r t) (hr t)) _
    iapply hm $$ H
  have hset : (Finset.univ : Finset T).biUnion (fun t => (m.view.slice (r t)).set) = m.view.set := by
    ext i
    constructor
    · intro hi
      obtain ⟨t, -, hi⟩ := Finset.mem_biUnion.mp hi
      exact View.set_slice_subset _ _ hi
    · intro hi
      obtain ⟨x, -, rfl⟩ := Finset.mem_map.mp hi
      obtain ⟨t, -, hx⟩ := Finset.mem_biUnion.mp (hcov.symm ▸ Finset.mem_univ x)
      refine Finset.mem_biUnion.mpr ⟨t, Finset.mem_univ _, ?_⟩
      rw [View.set_slice]
      exact Finset.mem_map_of_mem _ hx
  have h2 : (bigSep Finset.univ fun t => anyAt c (m.slice (r t) (hr t))) ⊢ anyAt (F := F) c m := by
    rw [bigSep_congr (fun t _ => anyAt_eq c (m.slice (r t) (hr t))), anyAt_eq]
    exact Ring.pointsTo_sub_blocks_join_exists (ℓ := m.view.loc (c : Thread nD τ)) (fun t => (m.view.slice (r t)).set)
      (fun t t' h => by rw [View.set_slice, View.set_slice]; exact (Finset.disjoint_map _).mpr (hd t t' h))
      m.view.set hset (fun _ => Classical.arbitrary _)
  exact equiv_iff.mp ⟨h1, h2⟩

/-! ## The kernel's buffers -/

/-- A send buffer is its four tiles. -/
theorem send_tiles (c : Dev nD) (d b : Bool) : anyAt (F := F) c (bufs.send d b) = All4 (sendAny c d b) := by
  rw [all4_eq, anyAt_rects c (bufs.send d b) sendRect (fun _ _ => rfl)
    (Ring.lead_disjoint (s := S4x128x1024) (0 : Fin 3) 1 (fun t : Fin 4 => ![t.val, 0, 0]) S1x128x1024.size inbSend (fun t => (Nat.one_mul _).symm) rfl)
    (Ring.lead_cover (s := S4x128x1024) (0 : Fin 3) 1 (fun t : Fin 4 => ![t.val, 0, 0]) S1x128x1024.size inbSend (fun t => (Nat.one_mul _).symm)
      (fun t a ha => by match a with | ⟨0, _⟩ => exact absurd rfl ha | ⟨1, _⟩ => rfl | ⟨2, _⟩ => rfl) rfl
      (fun a ha => by match a with | ⟨0, _⟩ => exact absurd rfl ha | ⟨1, _⟩ => rfl | ⟨2, _⟩ => rfl) rfl)]
  exact bigSep_congr fun t _ => (anyAt_squeeze c _ S128x1024 squeezes_S1x128x1024_S128x1024).symm

/-- The staging buffer is its four tiles. -/
theorem stage_tiles (c : Dev nD) : anyAt (F := F) c bufs.stage = All4 (stageAny c) := by
  rw [all4_eq, anyAt_rects c bufs.stage rTile (fun _ _ => rfl)
    (Ring.lead_disjoint (s := S4x128x2048) (0 : Fin 3) 1 (fun t : Fin 4 => ![t.val, 0, 0]) S1x128x2048.size inbStage (fun t => (Nat.one_mul _).symm) rfl)
    (Ring.lead_cover (s := S4x128x2048) (0 : Fin 3) 1 (fun t : Fin 4 => ![t.val, 0, 0]) S1x128x2048.size inbStage (fun t => (Nat.one_mul _).symm)
      (fun t a ha => by match a with | ⟨0, _⟩ => exact absurd rfl ha | ⟨1, _⟩ => rfl | ⟨2, _⟩ => rfl) rfl
      (fun a ha => by match a with | ⟨0, _⟩ => exact absurd rfl ha | ⟨1, _⟩ => rfl | ⟨2, _⟩ => rfl) rfl)]
  exact bigSep_congr fun t _ => (anyAt_squeeze c _ S128x2048 squeezes_S1x128x2048_S128x2048).symm

/-- The rows of tile `t` in the output. -/
abbrev rRows (t : Fin 4) : Rect S512x2048 := Rect.unit (s := S512x2048) ![128 * t.val, 0] S128x2048.size (inbRows t)

/-- Two tiles share no row. -/
theorem rows_apart : ∀ t t' : Fin 4, t ≠ t' → Disjoint (rRows t).set (rRows t').set :=
  Ring.lead_disjoint (s := S512x2048) (0 : Fin 2) 128 (fun t : Fin 4 => ![128 * t.val, 0]) S128x2048.size inbRows (fun t => rfl) rfl

/-- The four tiles are the whole output. -/
theorem rows_cover : (Finset.univ : Finset (Fin 4)).biUnion (fun t => (rRows t).set) = Finset.univ :=
  Ring.lead_cover (s := S512x2048) (0 : Fin 2) 128 (fun t : Fin 4 => ![128 * t.val, 0]) S128x2048.size inbRows (fun t => rfl)
    (fun t a ha => by match a with | ⟨0, _⟩ => exact absurd rfl ha | ⟨1, _⟩ => rfl) rfl
    (fun a ha => by match a with | ⟨0, _⟩ => exact absurd rfl ha | ⟨1, _⟩ => rfl) rfl

/-- The output is its four blocks of rows. -/
theorem out_tiles (c : Dev nD) : anyAt (F := F) c bufs.out = All4 (fun t => iprop(∃ v, owns (c : Thread nD τ) (bufs.outRows t) fullShare v)) := by
  rw [all4_eq, anyAt_rects c bufs.out rRows (fun _ _ => rfl) rows_apart rows_cover]
  rfl

/-- The whole output. -/
def outAll (c : Dev nD) : Vec F S512x2048 .f32 :=
  fun i => outTile I c (Fin.ofNat 4 ((i 0).val / 128)) fun a => match a with
    | ⟨0, _⟩ => ⟨(i 0).val % 128, Nat.mod_lt _ (by decide)⟩
    | ⟨1, _⟩ => i 1

/-- The whole output at a tile's row is the tile's value. -/
theorem outAll_emb (c : Dev nD) (t : Fin 4) (j : (rRows t).shape.Idx) : outAll I c ((rRows t).emb j) = outTile I c t j := by
  have h0 : ((rRows t).emb j 0).val = 128 * t.val + 1 * (j 0).val := rfl
  have h1 : ((rRows t).emb j 1).val = 0 + 1 * (j 1).val := rfl
  have hj : (j 0).val < 128 := (j 0).isLt
  have ht := t.isLt
  unfold outAll
  have e1 : Fin.ofNat 4 (((rRows t).emb j 0).val / 128) = t := by
    apply Fin.ext
    show ((rRows t).emb j 0).val / 128 % 4 = t.val
    rw [h0]; omega
  have e2 : (fun a => match a with
      | ⟨0, _⟩ => ⟨((rRows t).emb j 0).val % 128, Nat.mod_lt _ (by decide)⟩
      | ⟨1, _⟩ => (rRows t).emb j 1 : S128x2048.Idx) = j := by
    funext a
    apply Fin.ext
    match a with
    | ⟨0, _⟩ => show ((rRows t).emb j 0).val % 128 = (j 0).val; rw [h0]; omega
    | ⟨1, _⟩ => show ((rRows t).emb j 1).val = (j 1).val; rw [h1]; omega
  exact (congrFun (congrArg (outTile I c) e1) _).trans (congrArg (outTile I c t) e2)

/-- The finished blocks of rows are the whole output. -/
theorem out_join (c : Dev nD) :
    All4 (fun t => owns (c : Thread nD τ) (bufs.outRows t) fullShare (outTile I c t)) ⊢ owns (c : Thread nD τ) bufs.out fullShare (outAll I c) := by
  rw [all4_eq]
  refine BI.Entails.trans (Entails.of_eq (bigSep_congr fun t _ => ?_))
    (owns_of_rects (c : Thread nD τ) bufs.out fullShare rRows (fun _ _ => rfl) rows_apart rows_cover (outAll I c))
  rw [show (fun j => outAll I c ((rRows t).emb j)) = outTile I c t from funext fun j => outAll_emb I c t j]
  rfl

/-- A receive buffer is its slots. -/
theorem recv_slots (c : Dev nD) (d b : Bool) :
    anyAt (F := F) c (bufs.recv d b) = bigSep Finset.univ fun it : Fin (rnum b) × Fin 4 => anyAt c ((bufs.recv d b).slice (recvRect b it.1 it.2) (fun _ => rfl)) := by
  refine anyAt_rects c (bufs.recv d b) (fun it : Fin (rnum b) × Fin 4 => recvRect b it.1 it.2) (fun _ _ => rfl) ?_ ?_
  · rintro ⟨i, t⟩ ⟨i', t'⟩ h
    rw [Finset.disjoint_left]
    intro x hx hx'
    have a0 : i.val ≤ (x 0).val ∧ (x 0).val < i.val + 1 := Rect.mem_set_unit.mp hx 0
    have b0 : i'.val ≤ (x 0).val ∧ (x 0).val < i'.val + 1 := Rect.mem_set_unit.mp hx' 0
    have a1 : t.val ≤ (x 1).val ∧ (x 1).val < t.val + 1 := Rect.mem_set_unit.mp hx 1
    have b1 : t'.val ≤ (x 1).val ∧ (x 1).val < t'.val + 1 := Rect.mem_set_unit.mp hx' 1
    exact h (Prod.ext (Fin.ext (show i.val = i'.val by omega)) (Fin.ext (show t.val = t'.val by omega)))
  · ext x
    simp only [Finset.mem_biUnion, Finset.mem_univ, true_and, iff_true]
    refine ⟨(x 0, x 1), Rect.mem_set_unit.mpr fun a => ?_⟩
    match a with
    | ⟨0, _⟩ => exact ⟨Nat.le_refl _, Nat.lt_succ_self _⟩
    | ⟨1, _⟩ => exact ⟨Nat.le_refl _, Nat.lt_succ_self _⟩
    | ⟨2, _⟩ => exact ⟨Nat.zero_le _, (Nat.zero_add 128).symm ▸ (x 2).isLt⟩
    | ⟨3, _⟩ => exact ⟨Nat.zero_le _, (Nat.zero_add 1024).symm ▸ (x 3).isLt⟩

/-- Steps of both widths, one after the other. -/
theorem steps_split (Θ : (b : Bool) → Fin (rnum b) → sProp 𝕄) :
    (bigSep Finset.univ fun s : Fin 7 => Θ (nar s.val) (slotOf s)) = iprop(bigSep Finset.univ (Θ true) ∗ bigSep Finset.univ (Θ false)) := by
  rw [bigSep_univ_eq_bigSepL [0, 1, 2, 3, 4, 5, 6] (by decide) (by decide),
    bigSep_univ_eq_bigSepL (I := Fin (rnum true)) [(0 : Fin 2), (1 : Fin 2)] (by decide) (by decide),
    bigSep_univ_eq_bigSepL (I := Fin (rnum false)) [(0 : Fin 5), (1 : Fin 5), (2 : Fin 5), (3 : Fin 5), (4 : Fin 5)] (by decide) (by decide)]
  simp only [bigSepL_cons_cons, bigSepL_singleton]
  have h1 : ∀ A B C : sProp 𝕄, iprop(A ∗ B ∗ C) ⊢ iprop((A ∗ B) ∗ C) := by
    intro A B C
    iintro ⟨A, B, C⟩
    isplitl [A B]
    · isplitl [A]; · iexact A
      iexact B
    iexact C
  have h2 : ∀ A B C : sProp 𝕄, iprop((A ∗ B) ∗ C) ⊢ iprop(A ∗ B ∗ C) := by
    intro A B C
    iintro ⟨⟨A, B⟩, C⟩
    isplitl [A]; · iexact A
    isplitl [B]; · iexact B
    iexact C
  have h : ∀ A B C : sProp 𝕄, iprop(A ∗ B ∗ C) = iprop((A ∗ B) ∗ C) := fun A B C => equiv_iff.mp ⟨h1 A B C, h2 A B C⟩
  exact h _ _ _

/-- The receive buffers of a ring are its slots. -/
theorem ring_slots (c : Dev nD) (d : Bool) :
    iprop(anyAt (F := F) c (bufs.recv d true) ∗ anyAt c (bufs.recv d false))
      = bigSep Finset.univ fun t : Fin 4 => bigSep Finset.univ fun s : Fin 7 => slotAny c d s t := by
  have e : ∀ t : Fin 4, (bigSep Finset.univ fun s : Fin 7 => slotAny (F := F) c d s t)
      = iprop((bigSep Finset.univ fun i => anyAt c ((bufs.recv d true).slice (recvRect true i t) (fun _ => rfl)))
        ∗ (bigSep Finset.univ fun i => anyAt c ((bufs.recv d false).slice (recvRect false i t) (fun _ => rfl)))) := fun t =>
    (bigSep_congr fun s _ => anyAt_squeeze c _ S128x1024 squeezes_S1x1x128x1024_S128x1024).trans
      (steps_split fun b i => anyAt c ((bufs.recv d b).slice (recvRect b i t) (fun _ => rfl)))
  rw [bigSep_congr fun t _ => e t, sepU, recv_slots, recv_slots]
  have h : ∀ b, (bigSep Finset.univ fun it : Fin (rnum b) × Fin 4 => anyAt (F := F) c ((bufs.recv d b).slice (recvRect b it.1 it.2) (fun _ => rfl)))
      = bigSep Finset.univ fun t : Fin 4 => bigSep Finset.univ fun i => anyAt c ((bufs.recv d b).slice (recvRect b i t) (fun _ => rfl)) := fun b => by
    rw [bigSep_univ_equiv (Equiv.prodComm (Fin 4) (Fin (rnum b))), bigSep_univ_prod]
    rfl
  rw [h true, h false]

/-- The kernel's scratch buffers are the tiles and slots. -/
theorem scratch_eq (c : Dev nD) :
    (Pipeline.scopedRest (Ix := Unit) (Name := ℕ) (U := UU) (Lvl := ℕ) (Val := Elt F) cfg0.spec c : sProp 𝕄)
      = iprop(All4 (stageAny c) ∗ All8 (fun d t => iprop(sendAny c d true t ∗ sendAny c d false t))
        ∗ bigSep Finset.univ fun d : Bool => bigSep Finset.univ fun t : Fin 4 => bigSep Finset.univ fun s : Fin 7 => slotAny c d s t) := by
  have e1 : All8 (fun d t => iprop(sendAny (F := F) c d true t ∗ sendAny c d false t))
      = iprop((anyAt c (bufs.send true true) ∗ anyAt c (bufs.send true false)) ∗ (anyAt c (bufs.send false true) ∗ anyAt c (bufs.send false false))) := by
    rw [send_tiles, send_tiles, send_tiles, send_tiles, all8_all4, all4_sep, all4_sep, all4_sep]
  have e2 : (bigSep Finset.univ fun d : Bool => bigSep Finset.univ fun t : Fin 4 => bigSep Finset.univ fun s : Fin 7 => slotAny (F := F) c d s t)
      = iprop((anyAt c (bufs.recv true true) ∗ anyAt c (bufs.recv true false)) ∗ (anyAt c (bufs.recv false true) ∗ anyAt c (bufs.recv false false))) := by
    rw [ring_slots, ring_slots, bigSep_univ_eq_bigSepL (I := Bool) [true, false] (by decide) (by decide), bigSepL_cons_cons, bigSepL_singleton]
    rfl
  rw [e1, e2, ← stage_tiles]
  have hr : (Pipeline.scopedRest (Ix := Unit) (Name := ℕ) (U := UU) (Lvl := ℕ) (Val := Elt F) cfg0.spec c : sProp 𝕄)
      = iprop(anyAt c bufs.stage ∗ anyAt c (bufs.send true true) ∗ anyAt c (bufs.send false true) ∗ anyAt c (bufs.send true false) ∗ anyAt c (bufs.send false false)
        ∗ anyAt c (bufs.recv true true) ∗ anyAt c (bufs.recv false true) ∗ anyAt c (bufs.recv true false) ∗ anyAt c (bufs.recv false false)) := by
    refine (scopedRest0_eq c).trans ?_
    simp only [← anyAt_whole]
    rfl
  rw [hr]
  have h1 : ∀ A B C D E B' C' D' E' : sProp 𝕄, iprop(A ∗ B ∗ C ∗ D ∗ E ∗ B' ∗ C' ∗ D' ∗ E') ⊢ iprop(A ∗ ((B ∗ D) ∗ (C ∗ E)) ∗ ((B' ∗ D') ∗ (C' ∗ E'))) := by
    intro A B C D E B' C' D' E'
    iintro ⟨A, B, C, D, E, B', C', D', E'⟩
    isplitl [A]; · iexact A
    isplitl [B C D E]
    · isplitl [B D]
      · isplitl [B]; · iexact B
        iexact D
      isplitl [C]; · iexact C
      iexact E
    isplitl [B' D']
    · isplitl [B']; · iexact B'
      iexact D'
    isplitl [C']; · iexact C'
    iexact E'
  have h2 : ∀ A B C D E B' C' D' E' : sProp 𝕄, iprop(A ∗ ((B ∗ D) ∗ (C ∗ E)) ∗ ((B' ∗ D') ∗ (C' ∗ E'))) ⊢ iprop(A ∗ B ∗ C ∗ D ∗ E ∗ B' ∗ C' ∗ D' ∗ E') := by
    intro A B C D E B' C' D' E'
    iintro ⟨A, ⟨⟨B, D⟩, C, E⟩, ⟨B', D'⟩, C', E'⟩
    isplitl [A]; · iexact A
    isplitl [B]; · iexact B
    isplitl [C]; · iexact C
    isplitl [D]; · iexact D
    isplitl [E]; · iexact E
    isplitl [B']; · iexact B'
    isplitl [C']; · iexact C'
    isplitl [D']; · iexact D'
    iexact E'
  exact equiv_iff.mp ⟨h1 _ _ _ _ _ _ _ _ _, h2 _ _ _ _ _ _ _ _ _⟩

end Cert.KernelIdeal.Ring
-- ==== Proof.Ghost.lean ====
/- The start of the schedule: who gets which tokens, and what every device owes. -/
module

public import proofs.«01_k».proof.Proof.Pieces

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (I : Inp F) (K : Dev nD × CK → ℕ)

/-! ## Sums over the cells, taken apart -/

/-- A product over one element. -/
theorem unit_sep (Φ : Unit → sProp 𝕄) : bigSep Finset.univ Φ = Φ () := by
  rw [bigSep_univ_eq_bigSepL [()] (by decide) (by decide), bigSepL_singleton]

/-- A product over both directions. -/
theorem bool_sep (Φ : Bool → sProp 𝕄) : bigSep Finset.univ Φ = iprop(Φ true ∗ Φ false) := by
  rw [bigSep_univ_eq_bigSepL [true, false] (by decide) (by decide), bigSepL_cons_cons, bigSepL_singleton]
  rfl

/-- A product over two kinds. -/
theorem sum_sep {A B : Type} [Fintype A] [Fintype B] (Φ : A ⊕ B → sProp 𝕄) :
    bigSep Finset.univ Φ = iprop(bigSep Finset.univ (fun a => Φ (.inl a)) ∗ bigSep Finset.univ (fun b => Φ (.inr b))) :=
  bigSep_univ_sum Φ

/-- A family over rings, tiles and steps. -/
abbrev Lanes7 (Φ : Bool → Fin 4 → Fin 7 → sProp 𝕄) : sProp 𝕄 :=
  bigSep Finset.univ fun d : Bool => bigSep Finset.univ fun t : Fin 4 => bigSep Finset.univ fun s : Fin 7 => Φ d t s

/-- A family over rings and tiles. -/
abbrev Lanes (Φ : Bool → Fin 4 → sProp 𝕄) : sProp 𝕄 :=
  bigSep Finset.univ fun d : Bool => bigSep Finset.univ fun t : Fin 4 => Φ d t

/-- A product over the transfers, by direction, tile and step. -/
theorem tx_split (Φ : TX → sProp 𝕄) : bigSep Finset.univ Φ = Lanes7 fun d t s => Φ (d, s, t) := by
  rw [bigSep_univ_prod]
  refine bigSep_congr fun d _ => ?_
  rw [bigSep_univ_equiv (Equiv.prodComm (Fin 4) (Fin 7)), bigSep_univ_prod]
  rfl

/-- A product over a device's semaphores, by kind. -/
theorem ck_split (Φ : CK → sProp 𝕄) :
    bigSep Finset.univ Φ = iprop(Φ kBar ∗ (bigSep Finset.univ fun t => Φ (kOut t)) ∗ Lanes (fun d t => Φ (kSnd d t))
      ∗ Lanes7 fun d t s => Φ (kRcv d s t)) := by
  rw [sum_sep, sum_sep, sum_sep, unit_sep, tx_split, bigSep_univ_prod]

/-- Join two products over directions and tiles. -/
theorem lanes_sep (Φ Ψ : Bool → Fin 4 → sProp 𝕄) : iprop(Lanes Φ ∗ Lanes Ψ) = Lanes fun d t => iprop(Φ d t ∗ Ψ d t) := by
  rw [← sepU]
  exact bigSep_congr fun d _ => (sepU (Φ d) (Ψ d)).symm

/-- What is known throughout may be used at every member of a family. -/
theorem with_known {T : Type} [Fintype T] [DecidableEq T] {R : sProp 𝕄} [BI.Persistent R] {Φ Ψ : T → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← sepU]; exact bigSep_mono fun i _ => h i)

/-! ## The cells and their tokens -/

/-- Two devices or kinds have two semaphores. -/
theorem cell_inj : Function.Injective fun ck : Dev nD × CK => cell ck.1 ck.2 := by
  rintro ⟨c, k⟩ ⟨c', k'⟩ h
  have h1 : c = c' := congrArg (fun g : GSem nD τ sig => g.1.1) h
  have h2 : k = k' := semOf_inj (congrArg Prod.snd h)
  rw [h1, h2]

/-- The cells of the mesh. -/
def ringCells : Finset (GSem nD τ sig) := Finset.univ.map ⟨_, cell_inj⟩

/-- The duties of a device's own cells. -/
abbrev DK : Type := Bool ⊕ Fin 4 ⊕ TX ⊕ TX

/-- The semaphore, round and place of a duty. -/
def dutyKey : DK → CK × ℕ × Bool
  | .inl d => (kBar, 0, d)
  | .inr (.inl t) => (kOut t, 0, true)
  | .inr (.inr (.inl i)) => (kSnd i.1 i.2.2, i.2.1.val, true)
  | .inr (.inr (.inr i)) => (kRcv i.1 i.2.1 i.2.2, 0, true)

/-- Two duties have two places. -/
theorem dutyKey_inj : Function.Injective dutyKey := by
  rintro (d | t | ⟨d, s, t⟩ | ⟨d, s, t⟩) (d' | t' | ⟨d', s', t'⟩ | ⟨d', s', t'⟩) h <;>
    simp only [dutyKey, Prod.mk.injEq, Sum.inl.injEq, Sum.inr.injEq, reduceCtorEq, false_and, true_and, and_true] at h ⊢
  · exact h
  · exact h
  · exact ⟨h.1.1, Fin.ext h.2, h.1.2⟩
  · exact h

/-- A device's token of a duty. -/
def tokOf (cx : Dev nD × DK) : GSem nD τ sig × ℕ × Bool := (cell cx.1 (dutyKey cx.2).1, (dutyKey cx.2).2)

/-- Two duties have two tokens. -/
theorem tokOf_inj : Function.Injective tokOf := by
  rintro ⟨c, x⟩ ⟨c', x'⟩ h'
  have h : (cell c (dutyKey x).1, (dutyKey x).2) = (cell c' (dutyKey x').1, (dutyKey x').2) := h'
  have h1 : cell c (dutyKey x).1 = cell c' (dutyKey x').1 := (Prod.mk.inj h).1
  have h2 : (dutyKey x).2 = (dutyKey x').2 := (Prod.mk.inj h).2
  have h3 : (c, (dutyKey x).1) = (c', (dutyKey x').1) := cell_inj h1
  have h4 : (dutyKey x).1 = (dutyKey x').1 := congrArg (fun p : Dev nD × CK => p.2) h3
  have h5 : c = c' := congrArg (fun p : Dev nD × CK => p.1) h3
  exact Prod.ext h5 (dutyKey_inj (Prod.ext h4 h2))

/-- All tokens. -/
def ringToks : Finset (GSem nD τ sig × ℕ × Bool) := Finset.univ.map ⟨_, tokOf_inj⟩

/-- The launch's ghost element: the pipeline's and the ring's. -/
def u₀ : UU := (initOf (Pipeline.cells cfgs cellOf_inj) (Pipeline.launchToks cfgs cellOf_inj), initOf ringCells ringToks)

/-- The tokens of a device's own cells. -/
def ownToks (c : Dev nD) : sProp 𝕄 :=
  bigSep Finset.univ fun x : DK => dutyTok ER (cell c (dutyKey x).1) (dutyKey x).2.1 (dutyKey x).2.2

/-- What the launch element deals a device. -/
def G (c : Dev nD) : sProp 𝕄 :=
  iprop((bigSep Finset.univ fun k : CK => roundState ER (Rd I) (cell c k) 0)
    ∗ (bigSep Finset.univ fun k : CK => atPos ER (cell c k) 0 ∅ 0) ∗ (bigSep Finset.univ fun k : CK => reached ER (cell c k) 0) ∗ ownToks c)

/-- The schedule's start is made from nothing. -/
theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [sepU, sepU, sepU]
  isplitl [Hst']; · iexact Hst'
  isplitl [Hat']; · iexact Hat'
  isplitl [Hr']; · iexact Hr'
  iexact Htok'

/-! ## The semaphores at zero -/

/-- The kernel's own semaphores. -/
abbrev OK : Type := Fin 4 ⊕ (Bool × Fin 4) ⊕ TX
/-- The semaphores that are the kernel's own. -/
def osem (k : OK) : SemLoc sig := semOf (.inr k)

/-- They are apart from the pipeline's. -/
theorem ownSemFacts : Pipeline.OwnSemFacts spec0 osem where
  isScoped k := by
    revert k
    decide +kernel
  inj a b h := Sum.inr.inj (semOf_inj h)
  disj k w s h := by
    have h1 : kind (osem k) = some (.inr k) := kind_semOf _
    rw [h] at h1
    have h2 : kind (.dma ((spec0 w).sem s)) = none := (by decide +kernel : ∀ (w : Fin 4) (s : Fin (spec0 w).nbuf), kind (.dma ((spec0 w).sem s)) = none) w s
    rw [h2] at h1
    exact absurd h1 (by simp)

/-- The barrier semaphore is the one from outside. -/
theorem unscopedSems0_eq (c : Dev nD) : (unscopedSems0 c : sProp 𝕄) = semVal (cell c kBar) 0 := by
  unfold unscopedSems0
  rw [bigSep_eq_bigSepL_of_eq [SemLoc.reg barS] (by decide) (by decide)]
  rfl

/-- A device's semaphores are its cells'. -/
theorem sems0_eq (c : Dev nD) :
    (bigSep Finset.univ fun k : CK => semVal (cell c k) 0 : sProp 𝕄)
      = iprop(unscopedSems0 c ∗ Pipeline.ownSems0 (Ix := Unit) (Name := ℕ) (U := UU) (Lvl := ℕ) (Val := Elt F) (τ := τ) osem c) := by
  rw [sum_sep, unit_sep, unscopedSems0_eq]
  rfl

/-- A device's semaphores become cells of the schedule. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (Rd I) κ (cell c k)))
          ∗ (bigSep Finset.univ fun k : CK => atPos ER (cell c k) 0 ∅ 0) ∗ (bigSep Finset.univ fun k : CK => reached ER (cell c k) 0) ∗ ownToks c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun k : CK => semVal (cell c k) 0) ∗ bigSep Finset.univ fun k : CK => roundState ER (Rd I) (cell c k) 0)
      ⊢ (|={Set.univ}=> bigSep Finset.univ fun k : CK => iprop(∃ κ : ℕ, cellInv ER (Rd I) κ (cell c k)) : sProp 𝕄) from by
        rw [← sepU]
        exact (bigSep_mono fun k _ => (Rounds.body_intro ER (Rd I) (cell c k)).trans inv_alloc).trans (bigSep_fupd _ _)) $$ [Hv Hst] with Hinv
  · isplitl [Hv] <;> iassumption
  imodintro
  isplitl [Hinv]; · iexact Hinv
  iexact Hrest

/-! ## The tokens dealt around -/

/-- The tokens of the duties a device pays. -/
def payToks (c : Dev nD) : sProp 𝕄 :=
  iprop(dutyTok ER (cell (src true c) kBar) 0 true ∗ dutyTok ER (cell (src false c) kBar) 0 false
    ∗ (bigSep Finset.univ fun t : Fin 4 => dutyTok ER (cell c (kOut t)) 0 true)
    ∗ (Lanes7 fun d t s => dutyTok ER (cell c (kSnd d t)) s.val true)
    ∗ (Lanes7 fun d t s => dutyTok ER (cell (toDev d c) (kRcv d s t)) 0 true))

/-- A device's tokens, by kind. -/
theorem ownToks_split (c : Dev nD) : (ownToks c : sProp 𝕄) =
    iprop((dutyTok ER (cell c kBar) 0 true ∗ dutyTok ER (cell c kBar) 0 false)
      ∗ (bigSep Finset.univ fun t : Fin 4 => dutyTok ER (cell c (kOut t)) 0 true)
      ∗ (Lanes7 fun d t s => dutyTok ER (cell c (kSnd d t)) s.val true)
      ∗ (bigSep Finset.univ fun i : TX => dutyTok ER (cell c (kRcv i.1 i.2.1 i.2.2)) 0 true)) := by
  unfold ownToks
  rw [sum_sep, sum_sep, sum_sep, bool_sep, tx_split]
  rfl

/-- A device and a transfer, the device moved on along the transfer's ring. -/
def moveTX : Dev nD × TX ≃ Dev nD × TX where
  toFun p := (toDev p.2.1 p.1, p.2)
  invFun p := (toDev (!p.2.1) p.1, p.2)
  left_inv p := Prod.ext (not_toDev p.2.1 p.1) rfl
  right_inv p := Prod.ext (toDev_not p.2.1 p.1) rfl

/-- Receive tokens move to the senders. -/
theorem rcv_around :
    (bigSep Finset.univ fun c : Dev nD => bigSep Finset.univ fun i : TX => dutyTok ER (cell c (kRcv i.1 i.2.1 i.2.2)) 0 true : sProp 𝕄)
      = bigSep Finset.univ fun c : Dev nD => Lanes7 fun d t s => dutyTok ER (cell (toDev d c) (kRcv d s t)) 0 true := by
  have h := (bigSep_univ_prod (fun p : Dev nD × TX => (dutyTok ER (cell p.1 (kRcv p.2.1 p.2.2.1 p.2.2.2)) 0 true : sProp 𝕄)))
  have h' := bigSep_univ_equiv moveTX (fun p : Dev nD × TX => (dutyTok ER (cell p.1 (kRcv p.2.1 p.2.2.1 p.2.2.2)) 0 true : sProp 𝕄))
  refine h.symm.trans (h'.trans ?_)
  rw [bigSep_univ_prod]
  exact bigSep_congr fun c _ => tx_split _

/-- Tokens move to those who pay. -/
theorem toks_around : (bigSep Finset.univ fun c : Dev nD => (ownToks c : sProp 𝕄)) ⊢ bigSep Finset.univ fun c : Dev nD => payToks c := by
  unfold payToks
  rw [bigSep_congr fun c _ => ownToks_split (F := F) c, sepU, sepU, sepU, sepU, sepU, sepU, sepU, sepU, rcv_around,
    bigSep_univ_equiv (step false) (fun c : Dev nD => (dutyTok ER (cell c kBar) 0 true : sProp 𝕄)),
    bigSep_univ_equiv (step true) (fun c : Dev nD => (dutyTok ER (cell c kBar) 0 false : sProp 𝕄))]
  iintro ⟨⟨H1, H2⟩, H3, H4, H5⟩
  isplitl [H1]; · iexact H1
  isplitl [H2]; · iexact H2
  isplitl [H3]; · iexact H3
  isplitl [H4]; · iexact H4
  iexact H5

/-- That every cell of the mesh is at round 0. -/
def Zero : sProp 𝕄 := bigSep Finset.univ fun ck : Dev nD × CK => reached ER (cell ck.1 ck.2) 0

/-- That every semaphore is at round 0 may be used again and again. -/
instance zero_persistent : BI.Persistent (Zero (F := F)) := by unfold Zero; infer_instance

/-- Every semaphore is at round 0. -/
theorem zero_at (c : Dev nD) (k : CK) : Zero ⊢ (reached ER (cell c k) 0 : sProp 𝕄) := by
  unfold Zero
  exact bigSep_elim (Φ := fun ck : Dev nD × CK => (reached ER (cell ck.1 ck.2) 0 : sProp 𝕄)) (Finset.mem_univ (c, k))

/-- What a device has when the cells are set up. -/
def G' (c : Dev nD) : sProp 𝕄 :=
  iprop(∃ K, (invs I K ∗ Zero) ∗ (bigSep Finset.univ fun k : CK => atPos ER (cell c k) 0 ∅ 0) ∗ payToks c)

/-- The devices' shares, put together for the body. -/
theorem regroup :
    (bigSep Finset.univ fun c : Dev nD => iprop((bigSep Finset.univ fun k : CK => iprop(∃ κ : ℕ, cellInv ER (Rd I) κ (cell c k)))
          ∗ (bigSep Finset.univ fun k : CK => atPos ER (cell c k) 0 ∅ 0) ∗ (bigSep Finset.univ fun k : CK => reached ER (cell c k) 0) ∗ ownToks c) : sProp 𝕄)
      ⊢ bigSep Finset.univ (G' I) := by
  have hI := bigSep_univ_prod (fun ck : Dev nD × CK => (iprop(∃ κ : ℕ, cellInv ER (Rd I) κ (cell ck.1 ck.2)) : sProp 𝕄))
  have hZ := bigSep_univ_prod (fun ck : Dev nD × CK => (reached ER (cell ck.1 ck.2) 0 : sProp 𝕄))
  rw [sepU, sepU, sepU]
  iintro ⟨HI, Hat, HR, Htok⟩
  ihave HI := (Entails.of_eq hI.symm) $$ HI
  ihave HR := (Entails.of_eq hZ.symm) $$ HR
  ihave HK := (BI.bigSep_exists_pi Finset.univ (fun (ck : Dev nD × CK) (κ : ℕ) => (cellInv ER (Rd I) κ (cell ck.1 ck.2) : sProp 𝕄))) $$ HI
  icases HK with ⟨%K, HI⟩
  ihave Htk := (toks_around (F := F)) $$ Htok
  ihave HA := (Entails.of_eq (sepU (fun c : Dev nD => bigSep Finset.univ fun k : CK => (atPos ER (cell c k) 0 ∅ 0 : sProp 𝕄)) payToks).symm) $$ [Hat Htk]
  · isplitl [Hat]; · iexact Hat
    iexact Htk
  iapply (with_known (R := iprop(invs I K ∗ Zero)) (Φ := fun c : Dev nD => iprop((bigSep Finset.univ fun k : CK => (atPos ER (cell c k) 0 ∅ 0 : sProp 𝕄)) ∗ payToks c))
    (Ψ := G' I) fun c => by
      unfold G'
      iintro H
      iexists K
      iexact H)
  isplitl [HI HR]
  · isplitl [HI]; · (unfold invs; iexact HI)
    unfold Zero
    iexact HR
  iexact HA

/-- The cells of the whole mesh set up at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

attribute [local irreducible] amt

/-- What the mesh owes a cell at the launch. -/
def need (k : CK) : ℕ :=
  (∑ i : TX, if k = kRcv i.1 i.2.1 i.2.2 then amt (nar i.2.1.val) else 0) + (if k = kBar then 1 else 0) + (if k = kBar then 1 else 0)

/-- What a tally says of a semaphore. -/
theorem tally_cell (c c' : Dev nD) (k k' : CK) (n : ℕ) :
    (tallyAt (cell c' k') () n : CellTallies nD τ sig Unit) (cell c k) () = if c = c' ∧ k = k' then n else 0 := by
  rw [tallyAt_apply]
  by_cases h : c = c' ∧ k = k'
  · rw [if_pos h, h.1, h.2, if_pos ⟨rfl, rfl⟩]
  · rw [if_neg h, if_neg]
    rintro ⟨e, -⟩
    have h3 := cell_inj (a₁ := (c, k)) (a₂ := (c', k')) e
    exact h ⟨congrArg Prod.fst h3, congrArg Prod.snd h3⟩

/-- What a device owes a semaphore at the start. -/
theorem owed₀_at (d c : Dev nD) (k : CK) :
    owed₀ d (cell c k) () = (∑ i : TX, if c = toDev i.1 d ∧ k = kRcv i.1 i.2.1 i.2.2 then amt (nar i.2.1.val) else 0)
      + (if c = src false d ∧ k = kBar then 1 else 0) + (if c = src true d ∧ k = kBar then 1 else 0) := by
  unfold owed₀ owed
  rw [Pi.add_apply, Finsupp.add_apply, Pi.add_apply, Finsupp.add_apply, tally_cell, tally_cell,
    Finset.filter_true_of_mem fun _ _ => Nat.zero_le _, Finset.sum_apply, Finsupp.finset_sum_apply]
  simp only [TX.cell, tally_cell]

/-- Exactly one device has a given neighbour. -/
theorem sum_neighbour (b : Bool) (c : Dev nD) (p : Prop) [Decidable p] (n : ℕ) :
    (∑ d : Dev nD, if c = toDev b d ∧ p then n else 0) = if p then n else 0 := by
  rw [Finset.sum_eq_single (toDev (!b) c)]
  · rw [toDev_not]
    by_cases h : p
    · rw [if_pos ⟨rfl, h⟩, if_pos h]
    · rw [if_neg fun x => h x.2, if_neg h]
  · intro d _ hd
    rw [if_neg]
    rintro ⟨rfl, -⟩
    exact hd (not_toDev b d).symm
  · intro h
    exact absurd (Finset.mem_univ _) h

/-- What all devices owe a semaphore at the start. -/
theorem launch_cell (c : Dev nD) (k : CK) :
    tallyOn (cell c k) (launchCredit (Pipeline.owing owed₀) 0 (cell c k)) = (tallyAt (cell c k) () (need k) : CellTallies nD τ sig Unit) := by
  unfold tallyAt
  refine congrArg _ (Finsupp.ext fun u => ?_)
  cases u
  rw [Pipeline.launchCredit_owing, Finsupp.single_eq_same, Finset.sum_congr rfl fun d _ => owed₀_at d c k, Finset.sum_add_distrib,
    Finset.sum_add_distrib, Finset.sum_comm]
  unfold need
  have h1 := Finset.sum_congr (s₁ := (Finset.univ : Finset TX)) rfl fun i _ =>
    sum_neighbour i.1 c (k = kRcv i.1 i.2.1 i.2.2) (amt (nar i.2.1.val))
  have h2 := sum_neighbour (!false) c (k = kBar) 1
  have h3 := sum_neighbour (!true) c (k = kBar) 1
  rw [h1, h2, h3]

/-- The handshake needs two signals. -/
theorem need_bar : need kBar = 2 := by
  unfold need
  rw [Finset.sum_eq_zero fun i _ => if_neg (by simp)]
  rfl

/-- A receipt needs one transfer. -/
theorem need_rcv (d : Bool) (s : Fin 7) (t : Fin 4) : need (kRcv d s t) = amt (nar s.val) := by
  unfold need
  rw [Finset.sum_eq_single (d, s, t)]
  · rw [if_pos rfl, if_neg (by simp)]
    rfl
  · rintro ⟨d', s', t'⟩ _ hn
    rw [if_neg]
    intro h
    exact hn (Sum.inr.inj (Sum.inr.inj (Sum.inr.inj h))).symm
  · intro h
    exact absurd (Finset.mem_univ _) h

/-- The launch credit: two units at the barrier, and what each receive cell is to get. -/
theorem creds (c : Dev nD) :
    (Pipeline.launchCred owed₀ c : sProp 𝕄)
      ⊢ iprop(cred (tallyAt (cell c kBar) () 2) ∗ Lanes7 fun d t s => cred (tallyAt (cell c (kRcv d s t)) () (amt (nar s.val)))) := by
  have h : (Pipeline.launchCred owed₀ c : sProp 𝕄) ⊢ bigSep Finset.univ fun k : CK => cred (tallyAt (cell c k) () (need k)) := by
    unfold Pipeline.launchCred
    refine (bigSep_subset (t := Finset.univ.map ⟨semOf, semOf_inj⟩) (Finset.subset_univ _)).trans ?_
    rw [bigSep_map]
    exact bigSep_mono fun k _ => Entails.of_eq (congrArg cred (launch_cell c k))
  refine h.trans ?_
  rw [ck_split, need_bar]
  simp only [need_rcv]
  iintro ⟨H, -, -, H'⟩
  isplitl [H]; · iexact H
  iexact H'

end Cert.KernelIdeal.Ring
-- ==== Proof.Launch.lean ====
/- The run of all devices: the body's obligation, the waits, and what holds at the end. -/
module

public import proofs.«01_k».proof.Proof.Ghost
public import proofs.«01_k».proof.Proof.Gen.KernelIdeal.Points
public import Idealize.ShloMosaic.Lib.Pipeline.CollectiveSegs

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (I : Inp F) (K : Dev nD × CK → ℕ)

/-! ## Entering the body -/

/-- All a lane starts with but that its cells are at round 0. -/
def Raw (c : Dev nD) (d : Bool) (t : Fin 4) : sProp 𝕄 :=
  iprop(atPos ER (cell c (kSnd d t)) 0 ∅ 0 ∗ (sendAny c d true t ∗ sendAny c d false t)
    ∗ (bigSep Finset.univ fun s : Fin 7 => dutyTok ER (cell (toDev d c) (kRcv d s t)) 0 true)
    ∗ (bigSep Finset.univ fun s : Fin 7 => dutyTok ER (cell c (kSnd d t)) s.val true)
    ∗ (bigSep Finset.univ fun s : Fin 7 => atPos ER (cell c (kRcv d s t)) 0 ∅ 0)
    ∗ (bigSep Finset.univ fun s : Fin 7 => cred (tallyAt (cell c (kRcv d s t)) () (amt (nar s.val)))))

/-- What a tile needs in a direction, from its pieces. -/
theorem pre_intro (c : Dev nD) (d : Bool) (t : Fin 4) : iprop(Zero ∗ Raw c d t) ⊢ Pre (F := F) c d t := by
  unfold Raw Pre Free
  have e1 : bigSep Finset.univ (Toks (F := F) c d t) = iprop((bigSep Finset.univ fun s : Fin 7 => dutyTok ER (cell (toDev d c) (kRcv d s t)) 0 true)
      ∗ (bigSep Finset.univ fun s : Fin 7 => dutyTok ER (cell c (kSnd d t)) s.val true)) := by
    rw [← sepU]; rfl
  have e2 : bigSep Finset.univ (Await (F := F) c d t) = iprop((bigSep Finset.univ fun s : Fin 7 => atPos ER (cell c (kRcv d s t)) 0 ∅ 0)
      ∗ (bigSep Finset.univ fun s : Fin 7 => cred (tallyAt (cell c (kRcv d s t)) () (amt (nar s.val))))) := by
    rw [← sepU]; rfl
  rw [e1, e2]
  iintro ⟨#HZ, Ha, Hs, H1, H2, H3, H4⟩
  isplitl [Ha Hs]
  · isplitl [Ha]; · iexact Ha
    isplitr; · iapply (zero_at c (kSnd d t)) $$ HZ
    iexact Hs
  isplitl [H1 H2]
  · isplitl [H1]; · iexact H1
    iexact H2
  isplitl [H3]; · iexact H3
  iexact H4

/-- All an output tile's copy needs but that its cell is at round 0. -/
def RawOut (c : Dev nD) (t : Fin 4) : sProp 𝕄 :=
  iprop(stageAny c t ∗ (∃ v, owns (c : Thread nD τ) (bufs.outRows t) fullShare v) ∗ dutyTok ER (cell c (kOut t)) 0 true)

/-- What a tile's copy to the output needs, from its pieces. -/
theorem outD_intro (c : Dev nD) (t : Fin 4) : iprop(Zero ∗ RawOut c t) ⊢ OutD (F := F) c t := by
  unfold RawOut OutD
  iintro ⟨#HZ, H1, H2, H3⟩
  isplitl [H1]; · iexact H1
  isplitl [H2]; · iexact H2
  isplitl [H3]; · iexact H3
  iapply (zero_at c (kOut t)) $$ HZ

/-- What a device hands over with the handshake, from its pieces. -/
theorem barPay_intro (c : Dev nD) (d : Bool) :
    iprop(Zero ∗ bigSep Finset.univ fun t : Fin 4 => bigSep Finset.univ fun s : Fin 7 => slotAny c d s t) ⊢ barPay (F := F) c d := by
  unfold barPay
  refine with_known fun t => with_known fun s => ?_
  iintro ⟨#HZ, H⟩
  isplitl [H]; · iexact H
  iapply (zero_at c (kRcv d s t)) $$ HZ

/-- The pieces of a device's buffers, by tile and direction. -/
theorem raw_join (c : Dev nD) :
    Lanes (Raw (F := F) c) = iprop(Lanes (fun d t => atPos ER (cell c (kSnd d t)) 0 ∅ 0)
      ∗ Lanes (fun d t => iprop(sendAny c d true t ∗ sendAny c d false t))
      ∗ (Lanes7 fun d t s => dutyTok ER (cell (toDev d c) (kRcv d s t)) 0 true)
      ∗ (Lanes7 fun d t s => dutyTok ER (cell c (kSnd d t)) s.val true)
      ∗ (Lanes7 fun d t s => atPos ER (cell c (kRcv d s t)) 0 ∅ 0)
      ∗ (Lanes7 fun d t s => cred (tallyAt (cell c (kRcv d s t)) () (amt (nar s.val))))) := by
  rw [lanes_sep, lanes_sep, lanes_sep, lanes_sep, lanes_sep]
  rfl

/-- All that a device is given makes up what the body starts from. -/
theorem entry_intro (c : Dev nD) :
    iprop(Zero ∗ (bigSep Finset.univ fun k : CK => atPos ER (cell c k) 0 ∅ 0) ∗ payToks c
        ∗ (cred (tallyAt (cell c kBar) () 2) ∗ Lanes7 fun d t s => cred (tallyAt (cell c (kRcv d s t)) () (amt (nar s.val))))
        ∗ anyAt c bufs.out ∗ Pipeline.scopedRest (Ix := Unit) (Name := ℕ) (U := UU) (Lvl := ℕ) (Val := Elt F) cfg0.spec c)
      ⊢ Entry (F := F) c := by
  have eo : All4 (RawOut (F := F) c) = iprop(All4 (stageAny c) ∗ All4 (fun t => iprop(∃ v, owns (c : Thread nD τ) (bufs.outRows t) fullShare v))
      ∗ bigSep Finset.univ fun t => dutyTok ER (cell c (kOut t)) 0 true) := by
    rw [all4_eq, all4_eq, all4_eq, ← sepU, ← sepU]; rfl
  have ho : iprop(Zero ∗ All4 (RawOut (F := F) c)) ⊢ All4 (OutD (F := F) c) := by
    rw [all4_eq, all4_eq]
    exact with_known fun t => outD_intro c t
  have hp : iprop(Zero ∗ Lanes (Raw (F := F) c)) ⊢ All8 (Pre (F := F) c) := by
    rw [all8_eq]
    exact with_known fun d => with_known fun t => pre_intro c d t
  unfold payToks Entry
  rw [ck_split, scratch_eq, out_tiles, bool_sep, all8_eq (fun d t => iprop(sendAny (F := F) c d true t ∗ sendAny c d false t)),
    all4_eq (fun t => atPos ER (cell c (kOut t)) 0 ∅ 0)]
  iintro ⟨#HZ, ⟨HaB, HaO, HaS, HaR⟩, ⟨HtB, HtB', HtO, HtS, HtR⟩, ⟨HcB, HcR⟩, Hout, Hstage, Hsend, Hs1, Hs2⟩
  isplitl [HtB Hs1]
  · isplitl [HtB]; · iexact HtB
    isplitr; · iapply (zero_at (src true c) kBar) $$ HZ
    iapply (barPay_intro c true)
    isplitr; · iexact HZ
    iexact Hs1
  isplitl [HtB' Hs2]
  · isplitl [HtB']; · iexact HtB'
    isplitr; · iapply (zero_at (src false c) kBar) $$ HZ
    iapply (barPay_intro c false)
    isplitr; · iexact HZ
    iexact Hs2
  isplitl [HaB]; · iexact HaB
  isplitl [HcB]; · iexact HcB
  isplitl [HaS Hsend HtR HtS HaR HcR]
  · iapply hp
    isplitr; · iexact HZ
    iapply (Entails.of_eq (raw_join c).symm)
    isplitl [HaS]; · iexact HaS
    isplitl [Hsend]; · iexact Hsend
    isplitl [HtR]; · iexact HtR
    isplitl [HtS]; · iexact HtS
    isplitl [HaR]; · iexact HaR
    iexact HcR
  isplitl [Hstage Hout HtO]
  · iapply ho
    isplitr; · iexact HZ
    iapply (Entails.of_eq eo.symm)
    isplitl [Hstage]; · iexact Hstage
    isplitl [Hout]; · iexact Hout
    iexact HtO
  iexact HaO

/-! ## Leaving the body -/

/-- What is left of a tile after the last step. -/
theorem done_open (c : Dev nD) (d : Bool) (t : Fin 4) :
    Done (F := F) c d t ⊢ iprop(atPos ER (cell c (kSnd d t)) 7 ∅ 0 ∗ (sendAny c d true t ∗ sendAny c d false t)
      ∗ (bigSep Finset.univ fun s : Fin 7 => atPos ER (cell c (kRcv d s t)) 1 ∅ 0) ∗ (bigSep Finset.univ fun s : Fin 7 => slotAny c d s t)) := by
  have e : Gots (F := F) c d t 7 = iprop((bigSep Finset.univ fun s : Fin 7 => atPos ER (cell c (kRcv d s t)) 1 ∅ 0)
      ∗ (bigSep Finset.univ fun s : Fin 7 => slotAny c d s t)) := by
    unfold Gots
    rw [Finset.filter_true_of_mem fun s _ => s.isLt, ← sepU]
    rfl
  unfold Done Free
  rw [e]
  iintro ⟨⟨Ha, -, Hs⟩, -, -, Hr, Hg⟩
  isplitl [Ha]; · iexact Ha
  isplitl [Hs]; · iexact Hs
  isplitl [Hr]; · iexact Hr
  iexact Hg

/-- All cells of a device close. -/
theorem close_all (c : Dev nD) :
    iprop(Known I K ∗ bigSep Finset.univ fun k : CK => atPos ER (cell c k) (rounds k) ∅ 0)
      ⊢ |={Set.univ}=> (bigSep Finset.univ fun k : CK => semVal (cell c k) 0 : sProp 𝕄) :=
  (with_known (Ψ := fun k : CK => iprop(|={Set.univ}=> semVal (cell c k) 0)) fun k => by
    iintro ⟨#HC, H⟩
    ihave #HI := (known_inv I K c k) $$ HC
    iapply (Rounds.cell_close ER (Rd I) (Set.mem_univ (K (c, k))) (fun h => h) (R := rounds k) (duties_after I c k))
    isplitr; · iexact HI
    iexact H).trans (bigSep_fupd _ _)

/-- What is left when the body is done. -/
def Left (c : Dev nD) : sProp 𝕄 :=
  iprop(owns (c : Thread nD τ) bufs.out fullShare (outAll I c) ∗ unscopedSems0 c
    ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) cfg0.spec c)

/-- At the end every semaphore is at zero and every buffer is back. -/
theorem exit_elim (c : Dev nD) : iprop(Known I K ∗ Exit I c) ⊢ |={Set.univ}=> Left I c := by
  have hd : All8 (Done (F := F) c) ⊢ iprop(Lanes (fun d t => atPos ER (cell c (kSnd d t)) 7 ∅ 0)
      ∗ Lanes (fun d t => iprop(sendAny c d true t ∗ sendAny c d false t))
      ∗ (Lanes7 fun d t s => atPos ER (cell c (kRcv d s t)) 1 ∅ 0) ∗ (Lanes7 fun d t s => slotAny c d s t)) := by
    rw [all8_eq, lanes_sep, lanes_sep, lanes_sep]
    exact bigSep_mono fun d _ => bigSep_mono fun t _ => done_open c d t
  have ho : All4 (fun t => iprop(atPos ER (cell c (kOut t)) 1 ∅ 0 ∗ outPay I c t))
      = iprop((bigSep Finset.univ fun t => atPos ER (cell c (kOut t)) 1 ∅ 0) ∗ All4 (stageAny c)
        ∗ All4 (fun t => owns (c : Thread nD τ) (bufs.outRows t) fullShare (outTile I c t))) := by
    rw [all4_eq, all4_eq, all4_eq, ← sepU, ← sepU]; rfl
  unfold Exit Left
  rw [ho]
  iintro ⟨#HC, HD, ⟨HaO, Hstage, Hout⟩, HaB⟩
  ihave HD := hd $$ HD
  icases HD with ⟨HaS, Hsend, HaR, Hslot⟩
  imod (close_all I K c) $$ [HaO HaB HaS HaR] with Hz
  · isplitr; · iexact HC
    iapply (Entails.of_eq (ck_split fun k : CK => (atPos ER (cell c k) (rounds k) ∅ 0 : sProp 𝕄)).symm)
    isplitl [HaB]; · iexact HaB
    isplitl [HaO]; · iexact HaO
    isplitl [HaS]; · iexact HaS
    iexact HaR
  ihave Hz := (Entails.of_eq (sems0_eq (F := F) c)) $$ Hz
  icases Hz with ⟨Hu, Hown⟩
  imodintro
  isplitl [Hout]
  · iapply (out_join I c) $$ Hout
  isplitl [Hu]; · iexact Hu
  isplitl [Hown]; · iexact Hown
  iapply (Entails.of_eq (scratch_eq (F := F) c).symm)
  isplitl [Hstage]; · iexact Hstage
  isplitl [Hsend]
  · iapply (Entails.of_eq (all8_eq fun d t => iprop(sendAny (F := F) c d true t ∗ sendAny c d false t)).symm) $$ Hsend
  iexact Hslot

/-! ## The launch -/

section Launch

variable (m : (ℓ : Loc nD τ sig) → Buf (Elt F) ℓ) (ρ : Dev nD → PrngReg)

/-- The memory at launch: every counter zero. -/
def s₀ : MemSt nD τ sig (Elt F) := ⟨m, fun _ => 0, ρ⟩

/-- What the devices are given, read off the memory. -/
def inp : Inp F where
  X c := (win0_0.blk (0 : Fin 1)).view.read (Elt F) (m ((c : Thread nD τ).loc main_arg0))
  W c := (win0_1.blk (0 : Fin 1)).view.read (Elt F) (m ((c : Thread nD τ).loc main_arg1))
  SX c := (win0_2.blk (0 : Fin 1)).view.read (Elt F) (m ((c : Thread nD τ).loc main_arg2))
  SW c := (win0_3.blk (0 : Fin 1)).view.read (Elt F) (m ((c : Thread nD τ).loc main_arg3))

/-- What a device holds before the body, but for its scratch buffers. -/
def start (c : Dev nD) : sProp 𝕄 :=
  iprop(levAts L lv ∗ G' (inp m) c
    ∗ (cred (tallyAt (cell c kBar) () 2) ∗ Lanes7 fun d t s => cred (tallyAt (cell c (kRcv d s t)) () (amt (nar s.val))))
    ∗ anyAt c bufs.out)

/-- What the body starts from. -/
def Φ₀ (c : Dev nD) : sProp 𝕄 :=
  iprop(start m c ∗ Pipeline.scopedRest (Ix := Unit) (Name := ℕ) (U := UU) (Lvl := ℕ) (Val := Elt F) cfg0.spec c)

/-- The proof's data: the arrays, what the windows hold, and what is kept before and after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).X c
    | ⟨1, _⟩ => (inp m).W c
    | ⟨2, _⟩ => (inp m).SX c
    | ⟨3, _⟩ => (inp m).SW c
  Φ t := match t with
    | ⟨0, _⟩ => Φ₀ m c
    | ⟨_ + 1, _⟩ => Left (inp m) c
  q _ := fullShare
  owed t := match t with
    | ⟨0, _⟩ => owed₀ c
    | ⟨_ + 1, _⟩ => 0

/-- The only point of the grid. -/
abbrev t₀ : Fin cfg0.N := t0_0

/-- A staging buffer at given contents. -/
abbrev stg (c : Dev nD) (b : Ref sig .tc) (X : b.ty.Contents (Elt F)) : sProp 𝕄 :=
  iprop(∃ f : b.ty.Contents (Elt F), ⌜f = X⌝ ∗ (((c : Thread nD τ).loc b) ↦{fullShare} f))

/-- The first matrix is fetched whole. -/
theorem fetched0 (c : Dev nD) (d) : (dats m ρ 0 c).before (0 : Fin 4) t₀ d = (inp m).X c := by
  unfold Dat.before; rw [if_pos (fetch0_0 t₀)]; rfl
/-- The second matrix is fetched whole. -/
theorem fetched1 (c : Dev nD) (d) : (dats m ρ 0 c).before (1 : Fin 4) t₀ d = (inp m).W c := by
  unfold Dat.before; rw [if_pos (fetch0_1 t₀)]; rfl
/-- The first scale is fetched. -/
theorem fetched2 (c : Dev nD) (d) : (dats m ρ 0 c).before (2 : Fin 4) t₀ d = (inp m).SX c := by
  unfold Dat.before; rw [if_pos (fetch0_2 t₀)]; rfl
/-- The second scale is fetched. -/
theorem fetched3 (c : Dev nD) (d) : (dats m ρ 0 c).before (3 : Fin 4) t₀ d = (inp m).SW c := by
  unfold Dat.before; rw [if_pos (fetch0_3 t₀)]; rfl

/-- The body's precondition. -/
def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- The body's postcondition. -/
def bodyPost (c : Dev nD) : sProp 𝕄 :=
  iprop(Left (inp m) c ∗ (dats m ρ 0 c).owesAt () t₀.succ
    ∗ stg c cc0_stg0_0 ((inp m).X c) ∗ stg c cc0_stg1_0 ((inp m).W c)
    ∗ stg c cc0_stg2_0 ((inp m).SX c) ∗ stg c cc0_stg3_0 ((inp m).SW c))

/-- What the body leaves is what the region expects. -/
theorem post_intro (c : Dev nD) :
    iprop(Known (inp m) K ∗ Ins (inp m) c ∗ Owe c 56 ∗ Exit (inp m) c) ⊢ |={Set.univ}=> bodyPost m ρ c := by
  unfold Ins Owe
  iintro ⟨#HC, ⟨H0, H1, H2, H3⟩, ⟨%W, HO⟩, HE⟩
  imod (exit_elim (inp m) K c) $$ [HE] with HL
  · isplitr; · iexact HC
    iexact HE
  imodintro
  unfold bodyPost Dat.owesAt Pipeline.owesWithin
  rw [show (dats m ρ 0 c).owed t₀.succ = 0 from rfl, owed_end]
  isplitl [HL]; · iexact HL
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

/-- The body, from its precondition to its postcondition. -/
theorem sound_body (c : Dev nD) : bodyPre m ρ c ⊢ wpc c (bufs.prog (F := F)) (fun _ => bodyPost m ρ c) := by
  have hf : wpc c (bufs.prog (F := F)) (fun _ => iprop(|={Set.univ}=> bodyPost m ρ c)) ⊢ wpc c (bufs.prog (F := F)) (fun _ => bodyPost m ρ c) := by
    unfold wpc; exact wp_fupd frame _ Set.univ _ _
  refine .trans ?_ hf
  unfold bodyPre Φ₀ start G'
  iintro ⟨⟨⟨#Hlev, ⟨%K, ⟨#HI, #HZ⟩, Hat, Htok⟩, Hcr, Hout⟩, Hscr⟩, Ho, ⟨%d0, %g0, %h0, H0⟩, ⟨%d1, %g1, %h1, H1⟩, ⟨%d2, %g2, %h2, H2⟩, ⟨%d3, %g3, %h3, H3⟩⟩
  rw [fetched0] at h0
  rw [fetched1] at h1
  rw [fetched2] at h2
  rw [fetched3] at h3
  subst h0 h1 h2 h3
  unfold Dat.owesAt Pipeline.owesWithin
  icases Ho with ⟨%W, %hW, HO⟩
  rw [show (dats m ρ 0 c).owed t₀.castSucc = owed₀ c from rfl]
  iapply (last (prog_spec (inp m) K c W)) $$ [HI HZ Hat Htok Hcr Hout Hscr HO H0 H1 H2 H3]
  · isplitl [H0 H1 H2 H3]
    · isplitr
      · unfold Known; isplitr; · iexact HI
        iexact Hlev
      unfold Ins
      isplitl [H0]; · iexact H0
      isplitl [H1]; · iexact H1
      isplitl [H2]; · iexact H2
      iexact H3
    isplitl [HO]; · iexact HO
    iapply (entry_intro c)
    isplitr; · iexact HZ
    isplitl [Hat]; · iexact Hat
    isplitl [Htok]; · iexact Htok
    isplitl [Hcr]; · iexact Hcr
    isplitl [Hout]; · iexact Hout
    iexact Hscr
  iintro %_ H
  iapply (post_intro K m ρ c) $$ H

/-- The body, from what the region gives to what it expects. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body (F := F) bufs.x bufs.hx bufs.w bufs.hw bufs.sx bufs.hsx bufs.sw bufs.hsw bufs.out bufs.hout bufs.stage bufs.hstage
      (bufs.send8 true) (bufs.hsend8 true) (bufs.send8 false) (bufs.hsend8 false)
      (bufs.send16 true) (bufs.hsend16 true) (bufs.send16 false) (bufs.hsend16 false)
      (bufs.recv8 true) (bufs.hrecv8 true) (bufs.recv8 false) (bufs.hrecv8 false)
      (bufs.recv16 true) (bufs.hrecv16 true) (bufs.recv16 false) (bufs.hrecv16 false)
      bufs.outSems (bufs.sendSems true) (bufs.sendSems false) (bufs.recvSems true) (bufs.recvSems false)) (fun _ => bodyPost m ρ c)
  rw [body_eq]
  exact sound_body m ρ c

/-- What is owed at the start lies above level 0. -/
theorem owed₀_pos {c : Dev nD} {g : GSem nD τ sig} {u : Unit} (h : 0 < owed₀ c g u) : L g = {()} ∧ 0 < lv g u := by
  unfold owed₀ at h
  rw [Pi.add_apply, Finsupp.add_apply, Pi.add_apply, Finsupp.add_apply, tallyAt_apply, tallyAt_apply] at h
  by_cases h1 : 0 < owed c 0 g u
  · obtain ⟨i, -, rfl⟩ := owed_pos h1
    refine ⟨L_tc _ _, ?_⟩
    rw [lv_cell]
    show 0 < 2 + i.idx
    omega
  by_cases h2 : g = cell (src false c) kBar
  · subst h2; exact ⟨L_tc _ _, by rw [lv_cell]; decide⟩
  by_cases h3 : g = cell (src true c) kBar
  · subst h3; exact ⟨L_tc _ _, by rw [lv_cell]; decide⟩
  rw [if_neg fun h' => h2 h'.1, if_neg fun h' => h3 h'.1] at h
  omega

/-- Whatever a device owes, it may wait on a staging cell. -/
theorem mayWait_stage (c : Dev nD) (sm : SemLoc sig) (hs : kind sm = none) (O : CellTallies nD τ sig Unit) (hO : O = owed₀ c ∨ O = 0) :
    (levAts L lv : sProp 𝕄) ⊢ MayWait (c : Thread nD τ) sm () O := by
  rcases hO with rfl | rfl
  · exact MayOwe.of_cut (L := L) (lev := lv) 0
      (fun p hp => by rw [Finset.mem_singleton.mp hp, L_tc]; exact Finset.mem_singleton_self _)
      (fun g u hg => by rw [(owed₀_pos hg).1]; exact Finset.mem_singleton_self _)
      (fun p hp => by rw [Finset.mem_singleton.mp hp]; show lvK (kind sm) ≤ 0; rw [hs]; exact Nat.le_refl 0)
      (fun g u hg => (owed₀_pos hg).2)
  · rw [MayWait_zero]; iintro -; iempintro

/-- The region's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every window is held in full. -/
theorem share_eq (c : Dev nD) (w : Fin cfg0.W) : (dats m ρ 0 c).share w = fullShare := by unfold Dat.share; split <;> rfl

/-- What the devices hold at launch. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (inp m) c)
      ⊢ |={Set.univ}=> iprop(start m c ∗ emp) := by
  rw [Pipeline.unscopedRestP_none, unscopedRest0_eq]
  iintro ⟨Hout, Hlev, Hcr, -, HG⟩
  ihave Hc := (creds (F := F) c) $$ Hcr
  imodintro
  unfold start
  isplitl
  · isplitl [Hlev]; · iexact Hlev
    isplitl [HG]; · iexact HG
    isplitl [Hc]; · iexact Hc
    iapply (Entails.of_eq (anyAt_whole (F := F) c main_v1).symm)
    iexists _
    iexact Hout
  · iempintro

/-- What the region holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

/-- What a device hands back beside its scratch: its result and its counters. -/
def back (c : Dev nD) : sProp 𝕄 :=
  iprop(owns (c : Thread nD τ) bufs.out fullShare (outAll (inp m) c) ∗ unscopedSems0 c)

/-- What the region holds after the body. -/
theorem phi1_exit (c : Dev nD) :
    (dats m ρ 0 c).Φ (Fin.last cfg0.N) ⊢ iprop(back m c ∗ Pipeline.ownSems0 osem c ∗ Pipeline.scopedRest cfg0.spec c) := by
  rw [show (dats m ρ 0 c).Φ (Fin.last cfg0.N) = Left (inp m) c from rfl]
  unfold Left back
  iintro ⟨H1, H2, H3, H4⟩
  isplitl [H1 H2]
  · isplitl [H1] <;> iassumption
  isplitl [H3] <;> iassumption

/-- What is read off the final memory of a device: its result, and its counters at zero. -/
def Read (c : Dev nD) (s : MemSt nD τ sig (Elt F)) : Prop :=
  s.mem ((c : Thread nD τ).loc main_v1) = outAll (inp m) c
    ∧ ∀ sm : SemLoc sig, sm.isScoped .tc = false → s.sem ((c.tc : Thread nD τ), sm) = 0

/-- The output and the arguments, read off the memory at the end. -/
theorem back_read (c : Dev nD) (s' : Phys nD τ sig (Elt F)) :
    iprop(back m c ∗ emp ∗ SI s') ⊢ |={Set.univ}=> iprop(⌜Read m c s'.mem⌝ ∗ SI s') := by
  unfold back
  iintro ⟨⟨Ho, Hu⟩, -, HSI⟩
  imod (Pipeline.unscopedSems0_read (X := unscopedSems0 c) (c := c) fupd_intro s') $$ [Hu HSI] with ⟨%hu, HSI⟩
  · isplitl [Hu] <;> iassumption
  ihave Ho := (show owns (c : Thread nD τ) bufs.out fullShare (outAll (inp m) c)
    ⊢ (bigSep {()} fun _ : Unit => (((c : Thread nD τ).loc main_v1) ↦{fullShare} outAll (inp m) c) : sProp 𝕄) from by
      rw [bigSep_singleton]; exact Entails.of_eq (owns_whole _ _ _ _)) $$ Ho
  ihave H := (pointsTo_read_all {()} (fun _ : Unit => (c : Thread nD τ).loc main_v1) (fun _ => outAll (inp m) c) s') $$ [Ho HSI]
  · isplitl [Ho] <;> iassumption
  icases H with ⟨%ho, HSI⟩
  imodintro
  isplitr
  · ipureintro
    exact ⟨ho () (Finset.mem_singleton_self _), hu⟩
  iexact HSI

/-- What is claimed of a final state. -/
def Final (r : PUnit × MemSt nD τ sig (Elt F)) : Prop :=
  (∀ c : Dev nD,
      (r.2.mem ((c.tc : Thread nD τ).loc main_v1) = outAll (inp m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)))
    ∧ r.2.sem = fun _ => 0

set_option maxRecDepth 100000 in
/-- From any memory with zero counters, every weakly fair execution of the eight devices ends, and in every final
    state each device's result is `outAll`, its arguments are unchanged and every counter is zero. -/
theorem run_main : θ_run defs (onTc (τ := τ) (main (F := F))) (s₀ m ρ) (Final m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := owed₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start m) (Y := back m) (Z := fun _ => iprop(emp))
    (hX := start_intro m ρ) (hin := phi0_intro m ρ) (hout := phi1_exit m ρ)
    (QY := Read m) (hY := back_read m)
    (hQ := fun _ h hs => ⟨fun c => ⟨(h c).2.2.1,
        ((h c).1 (0 : Fin 4)).trans ((dats m ρ 0 c).arrAt_in (0 : Fin 4) rfl _),
        ((h c).1 (1 : Fin 4)).trans ((dats m ρ 0 c).arrAt_in (1 : Fin 4) rfl _),
        ((h c).1 (2 : Fin 4)).trans ((dats m ρ 0 c).arrAt_in (2 : Fin 4) rfl _),
        ((h c).1 (3 : Fin 4)).trans ((dats m ρ 0 c).arrAt_in (3 : Fin 4) rfl _)⟩,
      sem_eq_zero hs fun c => (h c).2.2.2⟩)

/-- Every execution ends with the arguments as they were and every counter at zero. -/
theorem run_frame : θ_run defs (onTc (τ := τ) (main (F := F))) ⟨m, fun _ => 0, ρ⟩ (fun r =>
    (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_main m ρ)

end Launch

end Cert.KernelIdeal.Ring
-- ==== Proof.Same.lean ====
/- The kernel as lowered and the ideal one have the same text, so one run gives both frames. -/
module
public import proofs.«01_k».proof.Defs
public import proofs.«01_k».proof.Proof.Gen.Kernel
public import proofs.«01_k».proof.Proof.Gen.Kernel.Skeleton
public import proofs.«01_k».proof.Proof.Launch
@[expose] public section
noncomputable section
namespace Cert.Proof

open Idealize.ShloMosaic Idealize.SL.Sem Cert.Kernel

/-- The kernel as lowered and the kernel read over the extended reals run the same body. -/
theorem body_same : Cert.Kernel.defs₀ (F := Bits) = Cert.KernelIdeal.defs₀ (F := Bits) := by
  unfold Cert.Kernel.defs₀ Cert.KernelIdeal.defs₀
  apply congrArg Defs.onTc
  funext l x
  match l, x with
  | 0, (t, s) =>
    show _ = _
    dsimp only
    rw [Cert.Kernel.Gen.cc0_body_eq_skeleton, Cert.KernelIdeal.Gen.cc0_body_eq_skeleton]
    rfl

/-- So their tables of bodies agree. -/
theorem defs_same : Cert.Kernel.defs (F := Bits) = Cert.KernelIdeal.defs (F := Bits) :=
  congrArg (Pipeline.defs (Cert.KernelIdeal.pcfgs (F := Bits))) body_same

/-- The kernel as lowered runs, leaves its arguments as they were and every counter at zero. -/
theorem frame_kernel : Cert.quiescent_Kernel := fun m ρ _ => by
  rw [defs_same]
  exact Cert.KernelIdeal.Ring.run_frame (F := Bits) m ρ

/-- So does the kernel read over the extended reals. -/
theorem frame_ideal : Cert.quiescent_KernelIdeal := fun m ρ _ => Cert.KernelIdeal.Ring.run_frame (F := Ideal) m ρ

end Cert.Proof

end
-- ==== Proof.RefValue.lean ====
/- What the reference leaves in its result: its body's value of the whole arguments, and that value at an index. -/
module

public import proofs.«01_k».proof.Proof.Gen.ReferenceIdeal.Value
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise
public import Idealize.ShloMosaic.PureOps.Ideal.Laws
public import Idealize.ShloMosaic.Lib.IdealHost

@[expose] public section

set_option maxRecDepth 65536

noncomputable section

namespace Cert.ReferenceIdeal.Whole

open Cert.ReferenceIdeal Cert.ReferenceIdeal.Gen
open Idealize.ShloMosaic
open Idealize.ShloMosaic.TcCoe
open scoped BigOperators

variable (m : (ℓ : Loc nD τ sig) → Buf (Elt Ideal) ℓ)

/-- The window of the first argument is the whole array. -/
theorem emb0 (t : Fin cfg0.N) (i : S4096x4096.Idx) : (win0_0.blk t).view.emb i = i := by
  funext a
  apply Fin.ext
  exact win0_0.rect_emb_val_of_index_zero t a ((by decide +kernel : ∀ (t : Fin grid0.N) a, win0_0.index t a = 0) t a) i

/-- The window of the second argument is the whole array. -/
theorem emb1 (t : Fin cfg0.N) (i : S4096x2048.Idx) : (win0_1.blk t).view.emb i = i := by
  funext a
  apply Fin.ext
  exact win0_1.rect_emb_val_of_index_zero t a ((by decide +kernel : ∀ (t : Fin grid0.N) a, win0_1.index t a = 0) t a) i

/-- So the body reads the first argument whole. -/
theorem iblk0 (c : Dev nD) (t : Fin cfg0.N) : iblk m c 0 t = m (c.tc.loc main_arg0) :=
  funext fun i => congrArg (m (c.tc.loc main_arg0)) (emb0 t i)

/-- So the body reads the second argument whole. -/
theorem iblk1 (c : Dev nD) (t : Fin cfg0.N) : iblk m c 1 t = m (c.tc.loc main_arg1) :=
  funext fun i => congrArg (m (c.tc.loc main_arg1)) (emb1 t i)

/-- An array of one element has one index. -/
theorem first_eq (i : S1.Idx) : i = ix1 0 := by
  funext a
  match a with
  | ⟨0, _⟩ => exact Subsingleton.elim (α := Fin 1) _ _

/-- The body reads the first scale. -/
theorem iblk2 (c : Dev nD) (t : Fin cfg0.N) (i : S1.Idx) : iblk m c 2 t i = m (c.tc.loc main_arg2) (ix1 0) :=
  congrArg (m (c.tc.loc main_arg2)) (first_eq _)

/-- The body reads the second scale. -/
theorem iblk3 (c : Dev nD) (t : Fin cfg0.N) (i : S1.Idx) : iblk m c 3 t i = m (c.tc.loc main_arg3) (ix1 0) :=
  congrArg (m (c.tc.loc main_arg3)) (first_eq _)

/-- The window of the result is the whole array. -/
theorem emb4 (t : Fin cfg0.N) (i : S4096x2048.Idx) : (win0_4.blk t).view.emb i = i := by
  funext a
  apply Fin.ext
  exact win0_4.rect_emb_val_of_index_zero t a ((by decide +kernel : ∀ (t : Fin grid0.N) a, win0_4.index t a = 0) t a) i

/-- The result after the run is the body's value of the four arguments. -/
theorem result (c : Dev nD) (i : S4096x2048.Idx) :
    (dats m 0 c).arrAt 4 cfg0.N i =
      k0_pay1 (m (c.tc.loc main_arg0)) (m (c.tc.loc main_arg1)) (m (c.tc.loc main_arg2) (ix1 0)) (m (c.tc.loc main_arg3) (ix1 0)) i := by
  refine (dats m 0 c).arrAt_forall_of_covers 4 (fun i v => v =
      k0_pay1 (m (c.tc.loc main_arg0)) (m (c.tc.loc main_arg1)) (m (c.tc.loc main_arg2) (ix1 0))
        (m (c.tc.loc main_arg3) (ix1 0)) i) (by decide +kernel) (fun t hf y => ?_) i
  blk_simp
  rw [after0_4]
  unfold outsAt0
  frame_out
  simp only [read_unread_whole]
  rw [iblk0, iblk1, iblk2, iblk3]
  exact congrArg _ (emb4 t y).symm

/-- The activation of a scaled sum, as the reference computes it: the value over one plus the exponential of the
    negated clipped value. -/
def silu (y : EReal) : EReal :=
  Ideal.div y (1 + Ideal.exp (0 - min (Ideal.ofBits .f32 0x42700000#32) (max (Ideal.ofBits .f32 0xC2700000#32) y)))

/-- The body's value at an index: the activation of the scaled product of row and column. -/
theorem pay_apply (x : Vec Ideal S4096x4096 .fp8e4m3) (w : Vec Ideal S4096x2048 .fp8e4m3) (a b : Elt Ideal .f32) (i : S4096x2048.Idx) :
    k0_pay1 x w a b i = silu ((∑ k : Fin 4096, x (ix2 (i 0) k) * w (ix2 k (i 1))) * (a * b)) := by
  pointwise [k0_pay1]
  rfl

end Cert.ReferenceIdeal.Whole
-- ==== Proof.KValue.lean ====
/- What the kernel computes over the extended reals: the sum that travels along a ring, and a tile of the result. -/
module

public import proofs.«01_k».proof.Proof.Cells
public import proofs.«01_k».proof.Proof.RefValue

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

variable (I : Inp Ideal)

/-- The exponential is not negative. -/
theorem exp_nonneg (z : EReal) : 0 ≤ Ideal.exp z := by
  induction z using EReal.rec with
  | bot => exact le_refl _
  | top => exact le_top
  | coe r => exact EReal.coe_nonneg.2 (Real.exp_pos r).le

/-- Multiplying by the logistic value is the reference's division: the denominator is never zero. -/
theorem silu_eq (y : EReal) :
    y * Ideal.div 1 (1 + Ideal.exp (0 - min (Ideal.ofBits .f32 0x42700000#32) (max (Ideal.ofBits .f32 0xC2700000#32) y)))
      = Cert.ReferenceIdeal.Whole.silu y := by
  have h : ∀ z : EReal, 1 + Ideal.exp z ≠ 0 := fun z => ne_of_gt (lt_of_lt_of_le zero_lt_one (le_add_of_nonneg_right (exp_nonneg z)))
  unfold Cert.ReferenceIdeal.Whole.silu Ideal.div
  rw [if_neg (h _), if_neg (h _), one_mul]

/-- The last step's value at an index. -/
theorem lastVal_apply (t : Fin 4) (p : FVec Ideal S512x1024 .bf16) (sc : Ideal .f32) (v : FVec Ideal S128x1024 .bf16) (j : S128x1024.Idx) :
    lastVal t p sc v j = Cert.ReferenceIdeal.Whole.silu ((rowsOf t p j + v j) * sc) := by
  rw [← silu_eq]
  pointwise [lastVal, actVal]

/-- Rows `128 t …` of a block, at an index. -/
theorem rowsOf_apply (t : Fin 4) (p : FVec Ideal S512x1024 .bf16) (r : Fin 128) (l : Fin 1024) :
    rowsOf t p (ix2 r l) = p (ix2 ⟨128 * t.val + r.val, by omega⟩ l) := by
  pointwise [rowsOf]

/-- The first step's product at an index. -/
theorem firstVal_apply (x : Vec Ideal S128x512 .fp8e4m3) (w : Vec Ideal S512x1024 .fp8e4m3) (r : Fin 128) (l : Fin 1024) :
    firstVal x w (ix2 r l) = ∑ k : Fin 512, x (ix2 r k) * w (ix2 k l) := by
  pointwise [firstVal]

/-- A block's product at an index. -/
theorem partVal_apply (x : Vec Ideal S512x512 .fp8e4m3) (w : Vec Ideal S512x1024 .fp8e4m3) (r : Fin 512) (l : Fin 1024) :
    partVal x w (ix2 r l) = ∑ k : Fin 512, x (ix2 r k) * w (ix2 k l) := by
  pointwise [partVal]

/-- Down to the wire's format and up again changes nothing. -/
theorem up_down (b : Bool) (v : FVec Ideal S128x1024 .bf16) : up b (down b v) = v := by
  cases b <;> rfl

/-! ## Which rows, which columns -/

/-- The block of rows a device works on at a step of a ring. -/
def blk (d : Bool) (s : ℕ) (c : Dev nD) : Fin 8 :=
  ⟨(c.val + (bif d then 15 - s else 1 + s)) % 8, Nat.mod_lt _ (by decide)⟩

/-- Where the first step's rows begin. -/
theorem off0_blk (d : Bool) (c : Dev nD) (t : Fin 4) : off0 d c t = ![512 * (blk d 0 c).val + 128 * t.val, 0] := by
  cases d
  · exact k0_off2_eq c t
  · exact k0_off1_eq c t

/-- Where a middle step's rows begin. -/
theorem offM_blk (d : Bool) (c : Dev nD) (s : Fin 6) : offM d c s = ![512 * (blk d (s.val + 1) c).val, 0] := by
  cases d
  · refine (k0_off4_eq c s).trans ?_
    rw [show c.val + s.val + 2 = c.val + (1 + (s.val + 1)) by omega]
    rfl
  · refine (k0_off3_eq c ⟨5 - s.val, by omega⟩).trans ?_
    show ![512 * ((c.val + (5 - s.val) + 9) % 8), 0] = _
    rw [show c.val + (5 - s.val) + 9 = c.val + (15 - (s.val + 1)) by omega]
    rfl

/-- In the last step a device works on its own block. -/
theorem blk_last (d : Bool) (c : Dev nD) : (blk d 7 c).val = c.val := by
  have := c.isLt
  change c.val < 8 at this
  cases d <;> show (c.val + 8) % 8 = c.val <;> omega

/-- A block travels along its ring: what a device works on at a step, its neighbour had the step before. -/
theorem blk_succ (d : Bool) (s : ℕ) (hs : s ≤ 6) (c : Dev nD) : blk d (s + 1) c = blk d s (src d c) := by
  apply Fin.ext
  cases d
  · show (c.val + (1 + (s + 1))) % 8 = ((toDev true c).val + (1 + s)) % 8
    rw [toDev_true]; omega
  · show (c.val + (15 - (s + 1))) % 8 = ((toDev false c).val + (15 - s)) % 8
    rw [toDev_false]; omega

/-- The device `i` places up a ring. -/
def rot (d : Bool) (c : Dev nD) (i : ℕ) : Dev nD :=
  ⟨(c.val + (bif d then 7 else 1) * i) % 8, Nat.mod_lt _ (by decide)⟩

/-- No place up the ring is the device itself. -/
theorem rot_zero (d : Bool) (c : Dev nD) : rot d c 0 = c := by
  apply Fin.ext
  have := c.isLt
  change c.val < 8 at this
  show (c.val + _ * 0) % 8 = c.val
  omega

/-- One place more up the ring, counted from the neighbour. -/
theorem rot_src (d : Bool) (c : Dev nD) (i : ℕ) : rot d (src d c) i = rot d c (i + 1) := by
  apply Fin.ext
  cases d
  · show ((toDev true c).val + 1 * i) % 8 = (c.val + 1 * (i + 1)) % 8
    rw [toDev_true]; omega
  · show ((toDev false c).val + 7 * i) % 8 = (c.val + 7 * (i + 1)) % 8
    rw [toDev_false]; omega

/-- Eight places up the ring are all devices, each once. -/
theorem rot_bij : ∀ (d : Bool) (c : Dev nD), Function.Bijective fun i : Fin 8 => (rot d c i.val : Fin 8) := by
  decide +kernel

/-- A row of the whole product: block, tile, row. -/
def row (b : Fin 8) (t : Fin 4) (r : Fin 128) : Fin 4096 := ⟨512 * b.val + 128 * t.val + r.val, by omega⟩

/-- A column of the whole product: half, column. -/
def lane (d : Bool) (l : Fin 1024) : Fin 2048 := ⟨col d + l.val, by cases d <;> simp only [col, sel] <;> omega⟩

/-- A place of the summed axis: device, place. -/
def deep (e : Fin 8) (k : Fin 512) : Fin 4096 := ⟨512 * e.val + k.val, by omega⟩

/-- What device `e` has to add to the product at a row and a column. -/
def term (A : Vec Ideal ⟨2, ![4096, 4096]⟩ .fp8e4m3) (B : Vec Ideal ⟨2, ![4096, 2048]⟩ .fp8e4m3) (e : Fin 8) (r : Fin 4096) (l : Fin 2048) : EReal :=
  ∑ k : Fin 512, A (ix2 r (deep e k)) * B (ix2 (deep e k) l)

/-- The devices hold the columns of one matrix and the rows of another. -/
structure Shared (A : Vec Ideal ⟨2, ![4096, 4096]⟩ .fp8e4m3) (B : Vec Ideal ⟨2, ![4096, 2048]⟩ .fp8e4m3) : Prop where
  X : ∀ (c : Dev nD) (r : Fin 4096) (k : Fin 512), I.X c (ix2 r k) = A (ix2 r (deep c k))
  W : ∀ (c : Dev nD) (k : Fin 512) (l : Fin 2048), I.W c (ix2 k l) = B (ix2 (deep c k) l)

variable {I}
variable {A : Vec Ideal ⟨2, ![4096, 4096]⟩ .fp8e4m3} {B : Vec Ideal ⟨2, ![4096, 2048]⟩ .fp8e4m3}

/-- A device's half of the second matrix at an index. -/
theorem wHalf_apply (H : Shared I A B) (d : Bool) (c : Dev nD) (k : Fin 512) (l : Fin 1024) :
    wHalf I d c (ix2 k l) = B (ix2 (deep c k) (lane d l)) := by
  rw [← H.W]
  refine congrArg (I.W c) (funext fun a => Fin.ext ?_)
  match a with
  | ⟨0, _⟩ => show 0 + 1 * k.val = k.val; omega
  | ⟨1, _⟩ => show col d + 1 * l.val = col d + l.val; omega

/-- The first step's partial product at an index. -/
theorem first_apply (H : Shared I A B) (d : Bool) (c : Dev nD) (t : Fin 4) (r : Fin 128) (l : Fin 1024) :
    first I d c t (ix2 r l) = term A B c (row (blk d 0 c) t r) (lane d l) := by
  unfold first
  rw [firstVal_apply]
  refine Finset.sum_congr rfl fun k _ => ?_
  rw [wHalf_apply H, ← H.X]
  refine congrArg (· * _) (congrArg (I.X c) (funext fun a => Fin.ext ?_))
  have h := off0_blk d c t
  match a with
  | ⟨0, _⟩ => show off0 d c t 0 + 1 * r.val = _; rw [h]; show 512 * (blk d 0 c).val + 128 * t.val + 1 * r.val = 512 * (blk d 0 c).val + 128 * t.val + r.val; omega
  | ⟨1, _⟩ => show off0 d c t 1 + 1 * k.val = k.val; rw [h]; show 0 + 1 * k.val = k.val; omega

/-- A block's partial product at a row of one of its tiles. -/
theorem block_apply (H : Shared I A B) (d : Bool) (c : Dev nD) (b : Fin 8) (off : Fin 2 → Nat) (h : off = ![512 * b.val, 0])
    (hi : ∀ a, off a + S512x512.size a ≤ S4096x512.size a) (t : Fin 4) (r : Fin 128) (l : Fin 1024) :
    rowsOf t (partVal (bufs.x.view.readAt (Elt Ideal) (Rect.unit (s := S4096x512) off S512x512.size hi).toLoadRect (I.X c)) (wHalf I d c)) (ix2 r l)
      = term A B c (row b t r) (lane d l) := by
  subst h
  rw [rowsOf_apply, partVal_apply]
  refine Finset.sum_congr rfl fun k _ => ?_
  rw [wHalf_apply H, ← H.X]
  refine congrArg (· * _) (congrArg (I.X c) (funext fun a => Fin.ext ?_))
  match a with
  | ⟨0, _⟩ => show 512 * b.val + 1 * (128 * t.val + r.val) = 512 * b.val + 128 * t.val + r.val; omega
  | ⟨1, _⟩ => show 0 + 1 * k.val = k.val; omega

/-- A middle step's partial product at a row of one of its tiles. -/
theorem part_apply (H : Shared I A B) (d : Bool) (c : Dev nD) (s : Fin 6) (t : Fin 4) (r : Fin 128) (l : Fin 1024) :
    rowsOf t (part I d c s) (ix2 r l) = term A B c (row (blk d (s.val + 1) c) t r) (lane d l) :=
  block_apply H d c _ _ (offM_blk d c s) _ t r l

/-- The last step's partial product at a row of one of its tiles. -/
theorem partL_apply (H : Shared I A B) (d : Bool) (c : Dev nD) (t : Fin 4) (r : Fin 128) (l : Fin 1024) :
    rowsOf t (partL I d c) (ix2 r l) = term A B c (row c t r) (lane d l) :=
  block_apply H d c c _ (k0_off5_eq c) _ t r l

/-! ## The sum along the ring -/

/-- What a device has summed up when it sends a step: the terms of the devices behind it. -/
theorem acc_apply (H : Shared I A B) (d : Bool) (t : Fin 4) (r : Fin 128) (l : Fin 1024) : ∀ (s : ℕ) (hs : s ≤ 6) (c : Dev nD),
    acc I d s c t (ix2 r l) = ∑ i ∈ Finset.range (s + 1), term A B (rot d c i) (row (blk d s c) t r) (lane d l)
  | 0, _, c => by
    rw [Finset.sum_range_one, rot_zero]
    exact first_apply H d c t r l
  | s + 1, hs, c => by
    have e := acc_succ I d ⟨s, by omega⟩ c t
    rw [show acc I d (s + 1) c t = _ from e, Finset.sum_range_succ', rot_zero, add_comm]
    show rowsOf t (part I d c ⟨s, _⟩) (ix2 r l) + up (nar s) (down (nar s) (acc I d s (src d c) t)) (ix2 r l) = _
    rw [up_down, part_apply H, acc_apply H d t r l s (by omega) (src d c), ← blk_succ d s (by omega)]
    simp only [rot_src]

/-- The terms of all devices make up the product. -/
theorem terms (r : Fin 4096) (l : Fin 2048) : ∑ e : Fin 8, term A B e r l = ∑ k : Fin 4096, A (ix2 r k) * B (ix2 k l) := by
  unfold term
  rw [← Fintype.sum_prod_type' (f := fun (e : Fin 8) (k : Fin 512) => A (ix2 r (deep e k)) * B (ix2 (deep e k) l))]
  refine Fintype.sum_equiv (finProdFinEquiv (m := 8) (n := 512)) _ (fun k : Fin 4096 => A (ix2 r k) * B (ix2 k l)) fun p => ?_
  have : deep p.1 p.2 = (finProdFinEquiv p : Fin (8 * 512)) := by
    apply Fin.ext
    rw [finProdFinEquiv_apply_val]
    show 512 * p.1.val + p.2.val = p.2.val + 512 * p.1.val
    omega
  rw [this]

/-- A device's half of an output tile. -/
theorem half_apply (H : Shared I A B) (d : Bool) (c : Dev nD) (t : Fin 4) (r : Fin 128) (l : Fin 1024) :
    half I d c t (ix2 r l)
      = Cert.ReferenceIdeal.Whole.silu ((∑ k : Fin 4096, A (ix2 (row c t r) k) * B (ix2 k (lane d l))) * scale I c) := by
  refine (lastVal_apply t (partL I d c) (scale I c) (acc I d 6 (src d c) t) (ix2 r l)).trans ?_
  rw [partL_apply H, acc_apply H d t r l 6 (le_refl _), ← blk_succ d 6 (le_refl _),
    show blk d 7 c = c from Fin.ext (blk_last d c)]
  simp only [rot_src]
  have h : term A B c (row c t r) (lane d l) + ∑ i ∈ Finset.range 7, term A B (rot d c (i + 1)) (row c t r) (lane d l)
      = ∑ k : Fin 4096, A (ix2 (row c t r) k) * B (ix2 k (lane d l)) := by
    rw [← terms, ← (rot_bij d c).sum_comp, Fin.sum_univ_eq_sum_range (fun i => term A B (rot d c i) (row c t r) (lane d l)),
      Finset.sum_range_succ' _ 7, rot_zero, add_comm]
  exact congrArg (fun z => Cert.ReferenceIdeal.Whole.silu (z * scale I c)) h

end Cert.KernelIdeal.Ring
-- ==== Proof.Value.lean ====
/- The equation: each device's output is its block of rows of the reference's result. -/
module

public import proofs.«01_k».proof.Defs
public import proofs.«01_k».proof.Proof.KValue
public import proofs.«01_k».proof.Proof.Launch
public import Idealize.ShloMosaic.Lib.Layout

@[expose] public section

set_option maxRecDepth 65536
set_option synthInstance.maxSize 1000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Whole (silu)
open scoped BigOperators

section Out

variable {I : Inp Ideal}
variable {A : Vec Ideal ⟨2, ![4096, 4096]⟩ .fp8e4m3} {B : Vec Ideal ⟨2, ![4096, 2048]⟩ .fp8e4m3}

/-- A device's whole output: its 512 rows of the activated product. -/
theorem outAll_apply (H : Shared I A B) (c : Dev nD) (r : Fin 512) (l : Fin 2048) :
    outAll I c (ix2 r l) = silu ((∑ k : Fin 4096, A (ix2 (deep c r) k) * B (ix2 k l)) * scale I c) := by
  have hr := r.isLt
  have hl := l.isLt
  have e : outAll I c (ix2 r l) = half I (Nat.blt l.val 1024) c (Fin.ofNat 4 (r.val / 128))
      (ix2 ⟨r.val % 128, Nat.mod_lt _ (by decide)⟩ ⟨l.val % 1024, Nat.mod_lt _ (by decide)⟩) := by
    refine congrArg (half I (Nat.blt l.val 1024) c (Fin.ofNat 4 (r.val / 128))) (funext fun a => ?_)
    match a with
    | ⟨0, _⟩ => rfl
    | ⟨1, _⟩ => rfl
  have e1 : row c (Fin.ofNat 4 (r.val / 128)) ⟨r.val % 128, Nat.mod_lt _ (by decide)⟩ = deep c r := by
    apply Fin.ext
    show 512 * c.val + 128 * (r.val / 128 % 4) + r.val % 128 = 512 * c.val + r.val
    omega
  have e2 : lane (Nat.blt l.val 1024) ⟨l.val % 1024, Nat.mod_lt _ (by decide)⟩ = l := by
    apply Fin.ext
    show col (Nat.blt l.val 1024) + l.val % 1024 = l.val
    by_cases h : l.val < 1024
    · rw [show Nat.blt l.val 1024 = true from Eq.mpr Nat.blt_eq h]
      show 0 + l.val % 1024 = l.val
      omega
    · rw [show Nat.blt l.val 1024 = false from Bool.eq_false_iff.2 fun e => h (Eq.mp Nat.blt_eq e)]
      show 1024 + l.val % 1024 = l.val
      omega
  rw [e, half_apply H, e1, e2]

end Out

/-! ## What the devices are given -/

variable (m : (ℓ : Loc nD τ sig) → Buf (Elt Ideal) ℓ)

/-- A device is given its block of the first matrix. -/
theorem inp_X (c : Dev nD) : (inp m).X c = m (c.tc.loc main_arg0) :=
  funext fun i => congrArg (m (c.tc.loc main_arg0)) (funext fun a => Fin.ext
    (win0_0.rect_emb_val_of_index_zero (0 : Fin 1) a ((by decide +kernel : ∀ a, win0_0.index (0 : Fin 1) a = 0) a) i))

/-- A device is given its block of the second matrix. -/
theorem inp_W (c : Dev nD) : (inp m).W c = m (c.tc.loc main_arg1) :=
  funext fun i => congrArg (m (c.tc.loc main_arg1)) (funext fun a => Fin.ext
    (win0_1.rect_emb_val_of_index_zero (0 : Fin 1) a ((by decide +kernel : ∀ a, win0_1.index (0 : Fin 1) a = 0) a) i))

/-- The product of the two scales a device is given. -/
theorem inp_scale (c : Dev nD) : scale (inp m) c
    = (Scalar.mulf (F := Ideal) (φ := .f32) (m (c.tc.loc main_arg2) (ix1 0)) (m (c.tc.loc main_arg3) (ix1 0)) : Ideal .f32) := by
  have h : ∀ i : S1.Idx, i = ix1 0 := Cert.ReferenceIdeal.Whole.first_eq
  exact congrArg₂ (Scalar.mulf (F := Ideal) (φ := .f32)) (congrArg (m (c.tc.loc main_arg2)) (h _))
    (congrArg (m (c.tc.loc main_arg3)) (h _))

end Cert.KernelIdeal.Ring

namespace Cert.Proof

open Idealize.ShloMosaic Idealize.ShloMosaic.TcCoe Idealize.SL.Sem
open Cert.KernelIdeal.Ring

/-- The kernel over the extended reals computes, on each device, its block of rows of what the reference computes. -/
theorem value : Cert.algebraic_KernelIdeal_ReferenceIdeal := by
  intro m g m' g' _ hin
  refine ⟨(Cert.ReferenceIdeal.Gen.dats m' 0 0).arrAt 4 Cert.ReferenceIdeal.cfg0.N, ?_, ?_⟩
  · refine (θ_run _ _ _).mono (fun r h c => ?_) (run_main (F := Ideal) m g)
    obtain ⟨hv, h0, h1, h2, h3⟩ := h.1 c
    refine ⟨hv.trans (funext fun i => ?_), h0, h1, h2, h3⟩
    have H : Shared (inp m) (m' ((0 : Dev Cert.ReferenceIdeal.nD).tc.loc Cert.ReferenceIdeal.main_arg0))
        (m' ((0 : Dev Cert.ReferenceIdeal.nD).tc.loc Cert.ReferenceIdeal.main_arg1)) := by
      refine ⟨fun c r k => ?_, fun c k l => ?_⟩
      · rw [inp_X, (hin c).1]
        refine congrArg (m' _) (funext fun a => Fin.ext ?_)
        match a with
        | ⟨0, _⟩ => rfl
        | ⟨1, _⟩ => show c.val * 512 + k.val = 512 * c.val + k.val; omega
      · rw [inp_W, (hin c).2.1]
        refine congrArg (m' _) (funext fun a => Fin.ext ?_)
        match a with
        | ⟨0, _⟩ => show c.val * 512 + k.val = 512 * c.val + k.val; omega
        | ⟨1, _⟩ => rfl
    obtain ⟨r, l, rfl⟩ : ∃ (r : Fin 512) (l : Fin 2048), i = ix2 r l := ⟨i 0, i 1, eq_ix2 i⟩
    rw [outAll_apply H, inp_scale, (hin c).2.2.1, (hin c).2.2.2]
    refine Eq.trans ?_ ((Cert.ReferenceIdeal.Whole.result m' 0 _).trans (Cert.ReferenceIdeal.Whole.pay_apply _ _ _ _ _)).symm
    have e : deep c r = ((by decide : Layout.Tiles ⟨2, ![512, 2048]⟩ ⟨2, ![4096, 2048]⟩ 0 8).idx c (ix2 r l) 0 : Fin 4096) :=
      Fin.ext (show 512 * c.val + r.val = c.val * 512 + r.val by omega)
    rw [e]
    rfl
  · exact (θ_run _ _ _).mono (fun r h => h 0) (Cert.ReferenceIdeal.Value.run_blocks (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, leaves its arguments as they were and every counter at zero. -/
theorem frame_reference : Cert.quiescent_ReferenceIdeal := fun m ρ _ => Cert.ReferenceIdeal.Gen.frame (F := Ideal) m ρ

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
